-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_n" .f32 0x38D1B717#32 ((1 / 10000 : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128x128 : Shape := ⟨3, ![1, 128, 128]⟩
abbrev S1 : Shape := ⟨1, ![1]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128x128 : S_.BroadcastsInDim S1x128x128 (![] : Fin 0 → Fin S1x128x128.rank)
  reducesTo_S1x128x128_S_d0_1_2 : S1x128x128.ReducesTo [0, 1, 2] S_

variable [Facts]

def fn_part1 {F : FTy → Type} [FloatOps F] (main_arg4 : FVec F S128 .f32) (main_arg5 : FVec F S_ .f32) (main_arg6 : FVec F S1x128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_v26 : IVec S_ 1 := andi main_v23 main_v25
  let main_v27 : FVec F S1x128x128 .f32 := Host.absf main_arg6
  let main_cst_9 : FVec F S_ .f32 := constant S_ .f32 0x7F800000#32
  let main_v28 : FVec F S1x128x128 .f32 := broadcastInDim S1x128x128 ![] bcast_S_S1x128x128 main_cst_9
  let main_v29 : IVec S1x128x128 1 := cmpf .olt main_v27 main_v28
  let main_c_10 : IVec S_ 1 := constantI S_ 1 1#1
  let main_v30 : IVec S_ 1 := (fun x v => Host.reduce IntOp.andi x v reducesTo_S1x128x128_S_d0_1_2 h_S_) main_v29 main_c_10
  let main_v31 : IVec S_ 1 := andi main_v26 main_v30
  main_v31

def fn {F : FTy → Type} [FloatOps F] (main_arg0 : FVec F S1x10000x128 .f32) (main_arg1 : FVec F S1x10000x128 .f32) (main_arg2 : FVec F S10000x10000 .f32) (main_arg3 : FVec F S128x128 .f32) (main_arg4 : FVec F S128 .f32) (main_arg5 : FVec F S_ .f32) (main_arg6 : FVec F S1x128x128 .f32) (main_arg7 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x128 .f32 := Host.absf main_arg1
  let main_cst_0 : FVec F S_ .f32 := constant S_ .f32 0x7F800000#32
  let main_v5 : FVec F S1x10000x128 .f32 := broadcastInDim S1x10000x128 ![] bcast_S_S1x10000x128 main_cst_0
  let main_v6 : IVec S1x10000x128 1 := cmpf .olt main_v4 main_v5
  let main_c_1 : IVec S_ 1 := constantI S_ 1 1#1
  let main_v7 : IVec S_ 1 := (fun x v => Host.reduce IntOp.andi x v reducesTo_S1x10000x128_S_d0_1_2 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128x128 : Shape := ⟨3, ![1, 128, 128]⟩
abbrev S1 : Shape := ⟨1, ![1]⟩
abbrev S10000x128 : Shape := ⟨2, ![10000, 128]⟩
abbrev S1x128 : Shape := ⟨2, ![1, 128]⟩
abbrev S1x1 : Shape := ⟨2, ![1, 1]⟩
abbrev S2x10000 : Shape := ⟨2, ![2, 10000]⟩
abbrev S400x10000 : Shape := ⟨2, ![400, 10000]⟩
abbrev S10000x256 : Shape := ⟨2, ![10000, 256]⟩
abbrev S400x256 : Shape := ⟨2, ![400, 256]⟩
abbrev S400x128 : Shape := ⟨2, ![400, 128]⟩
abbrev S2500x128 : Shape := ⟨2, ![2500, 128]⟩
abbrev S1x2500 : Shape := ⟨2, ![1, 2500]⟩
abbrev S2500 : Shape := ⟨1, ![2500]⟩
abbrev S1x20000 : Shape := ⟨2, ![1, 20000]⟩

abbrev nBuf : Space → Nat
  | .hbm => 16
  | .vmem => 14
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S1x128x128, .f32⟩
  | .hbm, ⟨7, _⟩ => ⟨S1, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S1x1, .f32⟩
  | .hbm, ⟨12, _⟩ => ⟨S128x128, .f32⟩
  | .hbm, ⟨13, _⟩ => ⟨S1x1, .f32⟩
  | .hbm, ⟨14, _⟩ => ⟨S2x10000, .f32⟩
  | .hbm, ⟨15, _⟩ => ⟨S1x20000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S400x10000, .f32⟩
  | .local _ .vmem, ⟨5, _⟩ => ⟨S400x10000, .f32⟩
  | .local _ .vmem, ⟨6, _⟩ => ⟨S1x1, .f32⟩
  | .local _ .vmem, ⟨7, _⟩ => ⟨S128x128, .f32⟩
  | .local _ .vmem, ⟨8, _⟩ => ⟨S1x1, .f32⟩
  | .local _ .vmem, ⟨9, _⟩ => ⟨S2x10000, .f32⟩
  | .local _ .vmem, ⟨10, _⟩ => ⟨S10000x256, .bf16⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v30 : BitVec 32 := Scalar.muli arg0 c400_i32
  let v33 : Index := Scalar.indexCast v30
  let c0_17 : Index := 0#32
  ![v33.toNat, 0]
def k0_cond3 (i : grid0.Coords) : BitVec 1 :=
  let arg0 : BitVec 32 := BitVec.ofNat 32 (i 0).val
  let c24_i32 : BitVec 32 := 24#32
  let v6 : BitVec 1 := Scalar.cmpi .eq arg0 c24_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x10000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_n" => some ((1 / 10000 : ℝ) : EReal)
  | _ => none
-- ==== ReferenceIdeal.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128x128 : Shape := ⟨3, ![1, 128, 128]⟩
abbrev S1 : Shape := ⟨1, ![1]⟩
abbrev S1x1x128 : Shape := ⟨3, ![1, 1, 128]⟩
abbrev S10000x128 : Shape := ⟨2, ![10000, 128]⟩
abbrev S1x128 : Shape := ⟨2, ![1, 128]⟩
abbrev S1x128x1x10000 : Shape := ⟨4, ![1, 128, 1, 10000]⟩
abbrev S1x10000x1 : Shape := ⟨3, ![1, 10000, 1]⟩
abbrev S1x1x1 : Shape := ⟨3, ![1, 1, 1]⟩
abbrev S1x10000 : Shape := ⟨2, ![1, 10000]⟩
abbrev S1x20000 : Shape := ⟨2, ![1, 20000]⟩

abbrev nBuf : Space → Nat
  | .hbm => 64
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S1x128x128, .f32⟩
  | .hbm, ⟨7, _⟩ => ⟨S1, .f32⟩
  | .hbm, ⟨8, _⟩ => ⟨S128x128, .f32⟩
  | .hbm, ⟨9, _⟩ => ⟨S1x10000x128, .f32⟩
  | .hbm, ⟨10, _⟩ => ⟨S1x1x128, .f32⟩
  | .hbm, ⟨11, _⟩ => ⟨S1x10000x128, .f32⟩
  | .hbm, ⟨12, _⟩ => ⟨S1x10000x128, .f32⟩
  | .hbm, ⟨13, _⟩ => ⟨S10000x128, .f32⟩
  | .hbm, ⟨14, _⟩ => ⟨S10000x128, .f32⟩
  | .hbm, ⟨15, _⟩ => ⟨S1x10000x128, .f32⟩
  | .hbm, ⟨16, _⟩ => ⟨S_, .f32⟩
  | .hbm, ⟨17, _⟩ => ⟨S1x10000x128, .f32⟩
  | .hbm, ⟨18, _⟩ => ⟨S1x10000x128, .i1⟩
  | .hbm, ⟨19, _⟩ => ⟨S1x10000x128, .f32⟩
  | .hbm, ⟨20, _⟩ => ⟨S1x10000x128, .f32⟩
  | .hbm, ⟨21, _⟩ => ⟨S1x10000x128, .f32⟩
  | .hbm, ⟨22, _⟩ => ⟨S128x128, .f32⟩
  | .hbm, ⟨23, _⟩ => ⟨S1x10000x128, .f32⟩
  | .hbm, ⟨24, _⟩ => ⟨S1x1x128, .f32⟩
  | .hbm, ⟨25, _⟩ => ⟨S1x10000x128, .f32⟩
  | .hbm, ⟨26, _⟩ => ⟨S1x10000x128, .f32⟩
  | .hbm, ⟨27, _⟩ => ⟨S10000x128, .f32⟩
  | .hbm, ⟨28, _⟩ => ⟨S10000x128, .f32⟩
  | .hbm, ⟨29, _⟩ => ⟨S1x10000x128, .f32⟩
  | .hbm, ⟨30, _⟩ => ⟨S_, .f32⟩
  | .hbm, ⟨31, _⟩ => ⟨S1x10000x128, .f32⟩
  | .hbm, ⟨32, _⟩ => ⟨S1x10000x128, .i1⟩
  | .hbm, ⟨33, _⟩ => ⟨S1x10000x128, .f32⟩
  | .hbm, ⟨34, _⟩ => ⟨S1x10000x128, .f32⟩
  | .hbm, ⟨35, _⟩ => ⟨S1x10000x128, .f32⟩
  | .hbm, ⟨36, _⟩ => ⟨S_, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x1x128, .f32⟩
  | .hbm, ⟨50, _⟩ => ⟨S1x10000x128, .f32⟩
  | .hbm, ⟨51, _⟩ => ⟨S1x128x1x10000, .f32⟩
  | .hbm, ⟨52, _⟩ => ⟨S1x10000x1, .f32⟩
  | .hbm, ⟨53, _⟩ => ⟨S1x1x1, .f32⟩
  | .hbm, ⟨54, _⟩ => ⟨S1x10000x1, .f32⟩
  | .hbm, ⟨55, _⟩ => ⟨S1x10000x1, .f32⟩
  | .hbm, ⟨56, _⟩ => ⟨S1x10000, .f32⟩
  | .hbm, ⟨57, _⟩ => ⟨S1x128x1x10000, .f32⟩
  | .hbm, ⟨58, _⟩ => ⟨S1x10000x1, .f32⟩
  | .hbm, ⟨59, _⟩ => ⟨S1x1x1, .f32⟩
  | .hbm, ⟨60, _⟩ => ⟨S1x10000x1, .f32⟩
  | .hbm, ⟨61, _⟩ => ⟨S1x10000x1, .f32⟩
  | .hbm, ⟨62, _⟩ => ⟨S1x10000, .f32⟩
  | .hbm, ⟨63, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Proof.Setup.lean ====
/- The set-up of the launch: when each branch of the body is taken, which buffers the body is handed, and what the
   region is entered with. -/
module

public import proofs.«01_k».proof.Proof.Gen.KernelIdeal.Frame
public import proofs.«01_k».proof.Proof.Gen.KernelIdeal.Skeleton
public import Idealize.ShloMosaic.Lib.VecWindow
public import Idealize.ShloMosaic.Lib.Pointwise.Index
public import Idealize.ShloMosaic.Lib.WholeRead

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, e0]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at every point — decided over the grid. -/
theorem hcond0_1 : ∀ t : Fin cfg0.N, cond0_1 (grid0.coords t) :=
  (by decide +kernel : ∀ t : Fin grid0.N, cond0_1 (grid0.coords t))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [cond0_2, k0_cond3, e0]
    word_cmp
   : ∀ t : Fin grid0.N, cond0_2 (grid0.coords t) ↔ t.val % 25 = 24)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x10000 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S10000x256 .bf16 := Memref.whole cc0_scratch0
abbrev scM0_1 : Memref sig .tc .vmem S10000x128 .f32 := Memref.whole cc0_scratch1
abbrev scM0_2 : Memref sig .tc .vmem S10000x128 .f32 := Memref.whole cc0_scratch2
abbrev scM0_3 : Memref sig .tc .vmem S1x128 .f32 := Memref.whole cc0_scratch3
/-- The scratch `arg10` the kernel carries between points, as a view: what it holds is stated through it. -/
abbrev VS0_0 : View sig .tc .vmem S10000x256 .bf16 := scM0_0.view
/-- The scratch `arg13` the kernel carries between points, as a view: what it holds is stated through it. -/
abbrev VS0_3 : View sig .tc .vmem S1x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The contents `d` with the 400 rows from row `o` on replaced by the block `p`. -/
abbrev putRows (o : ℕ) (p : Vec F S400x128 .f32) (d : Vec F S10000x128 .f32) : Vec F S10000x128 .f32 :=
  VecWindow.put d ![o, 0] S400x128.size p

/-- Loading all of a buffer that holds exactly `x` yields `x`. -/
theorem rdAll {s : Shape} {e : EltTy} {m : Memref sig .tc .vmem s e} (h : m.IsWhole) (x : Vec F s e) {off : Fin s.rank → ℕ}
    (inb : ∀ a, off a + s.size a ≤ s.size a) :
    m.view.readAt (Elt F) (Rect.unit off s.size inb).toLoadRect (h.unread x) = x :=
  (View.readAt_full _ _ _).trans (h.read_unread x)

/-- Loading a block of a buffer that holds exactly `x` yields that window of `x`. -/
theorem rdWin {s : Shape} {e : EltTy} {m : Memref sig .tc .vmem s e} (h : m.IsWhole) (x : Vec F s e) {off size : Fin s.rank → ℕ}
    (inb : ∀ a, off a + size a ≤ s.size a) :
    m.view.readAt (Elt F) (Rect.unit off size inb).toLoadRect (h.unread x) = VecWindow.window x off size inb :=
  funext fun y => h.readAt_unread x _ y

/-- Storing a 400-row block over a buffer that holds exactly `d`. -/
theorem stRows {m : Memref sig .tc .vmem S10000x128 .f32} (h : m.IsWhole) (d : Vec F S10000x128 .f32) (i : grid0.Coords)
    (inb : ∀ a, k0_off1 i a + S400x128.size a ≤ S10000x128.size a) (p q : Vec F S400x128 .f32) (e : p = q) :
    m.view.read (Elt F) (m.view.writes (Elt F) (h.unread d) [⟨Rect.unit (k0_off1 i) S400x128.size inb, p⟩])
      = putRows (400 * (i 0).val) q d := by
  subst e
  refine (View.read_writes_cons_put _ _ _ _ _ (k0_off1_eq i)).trans ?_
  rw [View.writes_nil, h.read_unread]

/-- The scores of a chunk of 2500 rows, from the sum `s` and the bias `bb`. -/
def score (s : Vec F S1x128 .f32) (bb : Vec F S1x1 .f32) (t : Vec F S2500x128 .f32) : Vec F S1x2500 .f32 :=
  k0_pay17 (k0_pay11 s) (k0_pay12 s) (k0_pay13 bb) t

/-- The chunk of 2500 rows from row `2500 * k` on. -/
def chunk (d : Vec F S10000x128 .f32) (k : Fin 4) : Vec F S2500x128 .f32 :=
  fun x => d (ix2 ⟨2500 * k.val + (x (0 : Fin 2)).val, by have := k.isLt; have : (x (0 : Fin 2)).val < 2500 := (x (0 : Fin 2)).isLt; omega⟩ ⟨(x (1 : Fin 2)).val, (x (1 : Fin 2)).isLt⟩)

/-- Both rows of the result: the scores of the first product in row 0, those of the second in row 1. -/
def scores (s : Vec F S1x128 .f32) (bb : Vec F S1x1 .f32) (d1 d2 : Vec F S10000x128 .f32) : Vec F S2x10000 .f32 :=
  fun y => score s bb (chunk (if (y (0 : Fin 2)).val = 0 then d1 else d2) ⟨(y (1 : Fin 2)).val / 2500, by have : (y (1 : Fin 2)).val < 10000 := (y (1 : Fin 2)).isLt; omega⟩)
    (ix2 (0 : Fin 1) ⟨(y (1 : Fin 2)).val % 2500, Nat.mod_lt _ (by norm_num)⟩)

/-- Loading a chunk of 2500 rows after storing a 400-row block over a buffer that holds exactly `d`. -/
theorem rdChunk {m : Memref sig .tc .vmem S10000x128 .f32} (h : m.IsWhole) (d : Vec F S10000x128 .f32) (i : grid0.Coords)
    (inb : ∀ a, k0_off1 i a + S400x128.size a ≤ S10000x128.size a) (p q : Vec F S400x128 .f32) (e : p = q) (k : Fin 4) (o : ℕ) (ho : o = 2500 * k.val)
    (inb' : ∀ a, (![o, 0] : Fin 2 → ℕ) a + S2500x128.size a ≤ S10000x128.size a) :
    m.view.readAt (Elt F) (Rect.unit (s := S10000x128) ![o, 0] S2500x128.size inb').toLoadRect
        (m.view.writes (Elt F) (h.unread d) [⟨Rect.unit (k0_off1 i) S400x128.size inb, p⟩])
      = chunk (putRows (400 * (i 0).val) q d) k := by
  subst ho
  funext y
  show m.view.read (Elt F) (m.view.writes (Elt F) (h.unread d) [⟨Rect.unit (k0_off1 i) S400x128.size inb, p⟩])
    ((Rect.unit (s := S10000x128) ![2500 * k.val, 0] S2500x128.size inb').emb y) = _
  rw [stRows h d i inb p q e]
  unfold chunk
  refine congrArg _ (funext fun a => Fin.ext ?_)
  match a with
  | ⟨0, _⟩ => exact congrArg (2500 * k.val + ·) (Nat.one_mul _)
  | ⟨1, _⟩ => exact (Nat.zero_add _).trans (Nat.one_mul _)

/-- The scores depend only on the values of their three operands. -/
theorem scoreCongr {s s' : Vec F S1x128 .f32} {bb bb' : Vec F S1x1 .f32} {t t' : Vec F S2500x128 .f32} (hs : s = s') (hb : bb = bb') (ht : t = t') :
    score s bb t = score s' bb' t' := by
  rw [hs, hb, ht]

/-- One of the eight stores of a stretch of scores agrees with the result as a whole. -/
theorem scores_piece (s : Vec F S1x128 .f32) (bb : Vec F S1x1 .f32) (d1 d2 : Vec F S10000x128 .f32) (r k o : ℕ) (hr : r < 2) (hk : k < 4) (ho : o = 2500 * k)
    (inb : ∀ a, (![r, o] : Fin 2 → ℕ) a + S1x2500.size a ≤ S2x10000.size a) (w : Vec F S1x2500 .f32)
    (e : w = score s bb (chunk (if r = 0 then d1 else d2) ⟨k, hk⟩)) (x : S1x2500.Idx) :
    w x = scores s bb d1 d2 ((Rect.unit (s := S2x10000) ![r, o] S1x2500.size inb).emb x) := by
  subst e ho
  have h0 : (x (0 : Fin 2)).val = 0 := by
    have : (x (0 : Fin 2)).val < 1 := (x (0 : Fin 2)).isLt
    omega
  have h1 : (x (1 : Fin 2)).val < 2500 := (x (1 : Fin 2)).isLt
  have e0 : ((Rect.unit (s := S2x10000) ![r, 2500 * k] S1x2500.size inb).emb x (0 : Fin 2)).val = r := by
    show r + 1 * (x (0 : Fin 2)).val = r
    omega
  have e1 : ((Rect.unit (s := S2x10000) ![r, 2500 * k] S1x2500.size inb).emb x (1 : Fin 2)).val = 2500 * k + (x (1 : Fin 2)).val := by
    show 2500 * k + 1 * (x (1 : Fin 2)).val = _
    omega
  unfold scores
  have ek : (⟨((Rect.unit (s := S2x10000) ![r, 2500 * k] S1x2500.size inb).emb x (1 : Fin 2)).val / 2500, by omega⟩ : Fin 4) = ⟨k, hk⟩ := Fin.ext (by show _ / 2500 = k; omega)
  have ex : (ix2 (0 : Fin 1) ⟨((Rect.unit (s := S2x10000) ![r, 2500 * k] S1x2500.size inb).emb x (1 : Fin 2)).val % 2500, Nat.mod_lt _ (by norm_num)⟩ : S1x2500.Idx) = x := by
    funext a
    refine Fin.ext ?_
    match a with
    | ⟨0, _⟩ => exact h0.symm
    | ⟨1, _⟩ => show _ % 2500 = (x (1 : Fin 2)).val; omega
  rw [ek, ex, e0]

/-- A place of the result lies in the store of its row and its stretch of 2500 columns. -/
theorem scores_cover (y : S2x10000.Idx) (r o : ℕ) (inb : ∀ a, (![r, o] : Fin 2 → ℕ) a + S1x2500.size a ≤ S2x10000.size a)
    (h0 : (y (0 : Fin 2)).val = r) (h1 : o ≤ (y (1 : Fin 2)).val ∧ (y (1 : Fin 2)).val < o + 2500) :
    y ∈ (Rect.unit (s := S2x10000) ![r, o] S1x2500.size inb).set :=
  (LoadRect.mem_set _).mpr fun a => match a with
    | ⟨0, _⟩ => ⟨0, Nat.one_pos, h0⟩
    | ⟨1, _⟩ => ⟨(y (1 : Fin 2)).val - o, by show _ < 2500; omega, by show (y (1 : Fin 2)).val = o + 1 * ((y (1 : Fin 2)).val - o); omega⟩

/-- After the eight stores the result buffer holds the scores, whatever it held. -/
theorem rdScores {m : Memref sig .tc .vmem S2x10000 .f32} (f : m.view.ty.Contents (Elt F)) (s : Vec F S1x128 .f32) (bb : Vec F S1x1 .f32) (d1 d2 : Vec F S10000x128 .f32)
    (a0 b0 a1 b1 a2 b2 a3 b3 : Vec F S1x2500 .f32)
    (A0 : ∀ a, (![0, 0] : Fin 2 → ℕ) a + S1x2500.size a ≤ S2x10000.size a) (B0 : ∀ a, (![1, 0] : Fin 2 → ℕ) a + S1x2500.size a ≤ S2x10000.size a)
    (A1 : ∀ a, (![0, 2500] : Fin 2 → ℕ) a + S1x2500.size a ≤ S2x10000.size a) (B1 : ∀ a, (![1, 2500] : Fin 2 → ℕ) a + S1x2500.size a ≤ S2x10000.size a)
    (A2 : ∀ a, (![0, 5000] : Fin 2 → ℕ) a + S1x2500.size a ≤ S2x10000.size a) (B2 : ∀ a, (![1, 5000] : Fin 2 → ℕ) a + S1x2500.size a ≤ S2x10000.size a)
    (A3 : ∀ a, (![0, 7500] : Fin 2 → ℕ) a + S1x2500.size a ≤ S2x10000.size a) (B3 : ∀ a, (![1, 7500] : Fin 2 → ℕ) a + S1x2500.size a ≤ S2x10000.size a)
    (ha0 : a0 = score s bb (chunk d1 0)) (hb0 : b0 = score s bb (chunk d2 0)) (ha1 : a1 = score s bb (chunk d1 1)) (hb1 : b1 = score s bb (chunk d2 1))
    (ha2 : a2 = score s bb (chunk d1 2)) (hb2 : b2 = score s bb (chunk d2 2)) (ha3 : a3 = score s bb (chunk d1 3)) (hb3 : b3 = score s bb (chunk d2 3)) :
    m.view.read (Elt F) (m.view.writes (Elt F) f [⟨Rect.unit ![1, 7500] S1x2500.size B3, b3⟩, ⟨Rect.unit ![0, 7500] S1x2500.size A3, a3⟩,
        ⟨Rect.unit ![1, 5000] S1x2500.size B2, b2⟩, ⟨Rect.unit ![0, 5000] S1x2500.size A2, a2⟩,
        ⟨Rect.unit ![1, 2500] S1x2500.size B1, b1⟩, ⟨Rect.unit ![0, 2500] S1x2500.size A1, a1⟩,
        ⟨Rect.unit ![1, 0] S1x2500.size B0, b0⟩, ⟨Rect.unit ![0, 0] S1x2500.size A0, a0⟩])
      = scores s bb d1 d2 := by
  funext y
  refine View.read_writes_apply_of_pieces m.view f (scores s bb d1 d2) _ ?_ y ?_
  · intro p hp
    simp only [List.mem_cons, List.not_mem_nil, or_false] at hp
    rcases hp with rfl | rfl | rfl | rfl | rfl | rfl | rfl | rfl
    · exact scores_piece s bb d1 d2 1 3 7500 (by norm_num) (by norm_num) rfl B3 b3 hb3
    · exact scores_piece s bb d1 d2 0 3 7500 (by norm_num) (by norm_num) rfl A3 a3 ha3
    · exact scores_piece s bb d1 d2 1 2 5000 (by norm_num) (by norm_num) rfl B2 b2 hb2
    · exact scores_piece s bb d1 d2 0 2 5000 (by norm_num) (by norm_num) rfl A2 a2 ha2
    · exact scores_piece s bb d1 d2 1 1 2500 (by norm_num) (by norm_num) rfl B1 b1 hb1
    · exact scores_piece s bb d1 d2 0 1 2500 (by norm_num) (by norm_num) rfl A1 a1 ha1
    · exact scores_piece s bb d1 d2 1 0 0 (by norm_num) (by norm_num) rfl B0 b0 hb0
    · exact scores_piece s bb d1 d2 0 0 0 (by norm_num) (by norm_num) rfl A0 a0 ha0
  · have h0 : (y (0 : Fin 2)).val < 2 := (y (0 : Fin 2)).isLt
    have h1 : (y (1 : Fin 2)).val < 10000 := (y (1 : Fin 2)).isLt
    simp only [List.mem_cons, List.not_mem_nil, or_false, exists_eq_or_imp, exists_eq_left]
    by_cases hr : (y (0 : Fin 2)).val = 0
    · by_cases c1 : (y (1 : Fin 2)).val < 2500
      · exact .inr (.inr (.inr (.inr (.inr (.inr (.inr (scores_cover y 0 0 A0 hr ⟨by omega, by omega⟩)))))))
      by_cases c2 : (y (1 : Fin 2)).val < 5000
      · exact .inr (.inr (.inr (.inr (.inr (.inl (scores_cover y 0 2500 A1 hr ⟨by omega, by omega⟩))))))
      by_cases c3 : (y (1 : Fin 2)).val < 7500
      · exact .inr (.inr (.inr (.inl (scores_cover y 0 5000 A2 hr ⟨by omega, by omega⟩))))
      exact .inr (.inl (scores_cover y 0 7500 A3 hr ⟨by omega, by omega⟩))
    · have hr' : (y (0 : Fin 2)).val = 1 := by omega
      by_cases c1 : (y (1 : Fin 2)).val < 2500
      · exact .inr (.inr (.inr (.inr (.inr (.inr (.inl (scores_cover y 1 0 B0 hr' ⟨by omega, by omega⟩)))))))
      by_cases c2 : (y (1 : Fin 2)).val < 5000
      · exact .inr (.inr (.inr (.inr (.inl (scores_cover y 1 2500 B1 hr' ⟨by omega, by omega⟩)))))
      by_cases c3 : (y (1 : Fin 2)).val < 7500
      · exact .inr (.inr (.inl (scores_cover y 1 5000 B2 hr' ⟨by omega, by omega⟩)))
      exact .inl (scores_cover y 1 7500 B3 hr' ⟨by omega, by omega⟩)

end Cert.KernelIdeal.Own

end
-- ==== Proof.RunA.lean ====
/- The body at the first point, run. -/
module

public import proofs.«01_k».proof.Proof.Setup

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point the two transformed feature matrices are built side by side, the running sum starts at zero and
    takes the point's block, and the point's rows of the two products are stored. -/
theorem runA (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S1x1 .f32) (harg6 : arg6.IsWhole) (arg7 : Memref sig .tc .vmem S128x128 .f32) (harg7 : arg7.IsWhole) (arg8 : Memref sig .tc .vmem S1x1 .f32) (harg8 : arg8.IsWhole) (arg9 : Memref sig .tc .vmem S2x10000 .f32) (harg9 : arg9.IsWhole) (arg10 : Memref sig .tc .vmem S10000x256 .bf16) (harg10 : arg10.IsWhole) (arg11 : Memref sig .tc .vmem S10000x128 .f32) (harg11 : arg11.IsWhole) (arg12 : Memref sig .tc .vmem S10000x128 .f32) (harg12 : arg12.IsWhole) (arg13 : Memref sig .tc .vmem S1x128 .f32) (harg13 : arg13.IsWhole) (hc0 : cond0_0 i) (hc1 : cond0_1 i) (hc2 : ¬cond0_2 i)
    (x0 : Vec F S10000x128 .f32) (x1 : Vec F S10000x128 .f32) (x2 : Vec F S128x128 .f32) (x3 : Vec F S1x128 .f32) (x4 : Vec F S400x10000 .f32) (x5 : Vec F S1x1 .f32) (x6 : Vec F S128x128 .f32) (x7 : Vec F S1x1 .f32) (d1 d2 : Vec F S10000x128 .f32) (d8 : Vec F S2x10000 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d8 ∗ (∃ d, owns (c : Thread nD τ) arg10 fullShare d) ∗ owns (c : Thread nD τ) arg11 fullShare d1 ∗ owns (c : Thread nD τ) arg12 fullShare d2 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d8 ∗ owns (c : Thread nD τ) arg10 fullShare (k0_pay1 x2 x3 x0 x1) ∗ owns (c : Thread nD τ) arg11 fullShare (putRows (400 * (i 0).val) (k0_pay6 x4 (k0_pay1 x2 x3 x0 x1) x5 x6) d1) ∗ owns (c : Thread nD τ) arg12 fullShare (putRows (400 * (i 0).val) (k0_pay7 x4 (k0_pay1 x2 x3 x0 x1) x5 x6) d2) ∗ owns (c : Thread nD τ) arg13 fullShare (k0_pay4 x4 (k0_pay1 x2 x3 x0 x1) x5 k0_pay2)) -∗ K ⟨⟩))
          ⊢ wp frame (wpE (defs₀ (F := F)) Variants.none c none) E (cc0__dgi_kernel i arg1 harg1 arg2 harg2 arg3 harg3 arg4 harg4 arg5 harg5 arg6 harg6 arg7 harg7 arg8 harg8 arg9 harg9 arg10 harg10 arg11 harg11 arg12 harg12 arg13 harg13) K := by
  simp only [cc0__dgi_kernel_eq_skeleton]; unfold cc0__dgi_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fH8, %hfH8, H8⟩, ⟨%eHS0, %fHS0, -, HS0⟩, ⟨%fHS1, %hfHS1, HS1⟩, ⟨%fHS2, %hfHS2, HS2⟩, ⟨%eHS3, %fHS3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfH8; obtain rfl := harg11.eq_unread hfHS1; obtain rfl := harg12.eq_unread hfHS2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HS0]
  · iexists _; isplitr; swap; · iexact HS0
    ipureintro
    refine (View.read_writes_full _ _ _ _ _).trans ?_
    congr 1 <;> exact rdAll _ _ _
  isplitl [HS1]
  · iexists _; isplitr; swap; · iexact HS1
    ipureintro
    refine stRows _ _ _ _ _ _ ?_
    congr 1
    · exact rdAll _ _ _
    · unfold runA.sl.v11; exact (View.readCov_full _ _ _ _ _).trans (by congr 1 <;> exact rdAll _ _ _)
    all_goals exact rdAll _ _ _
  isplitl [HS2]
  · iexists _; isplitr; swap; · iexact HS2
    ipureintro
    refine stRows _ _ _ _ _ _ ?_
    congr 1
    · exact rdAll _ _ _
    · unfold runA.sl.v11; exact (View.readCov_full _ _ _ _ _).trans (by congr 1 <;> exact rdAll _ _ _)
    all_goals exact rdAll _ _ _
  iexists _; isplitr; swap; · iexact HS3
  ipureintro
  refine (View.read_writes_full _ _ _ _ _).trans ?_
  congr 1
  · exact rdAll _ _ _
  · unfold runA.sl.v11; exact (View.readCov_full _ _ _ _ _).trans (by congr 1 <;> exact rdAll _ _ _)
  · exact rdAll _ _ _
  · exact View.readCov_full _ _ _ _ _

end Cert.KernelIdeal.Own

end
-- ==== Proof.RunB.lean ====
/- The body at a middle point, run. -/
module

public import proofs.«01_k».proof.Proof.Setup

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle point the running sum of rows grows by the point's block, and the point's rows of the two products are
    stored over whatever those buffers held; nothing else changes. -/
theorem runB (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S1x1 .f32) (harg6 : arg6.IsWhole) (arg7 : Memref sig .tc .vmem S128x128 .f32) (harg7 : arg7.IsWhole) (arg8 : Memref sig .tc .vmem S1x1 .f32) (harg8 : arg8.IsWhole) (arg9 : Memref sig .tc .vmem S2x10000 .f32) (harg9 : arg9.IsWhole) (arg10 : Memref sig .tc .vmem S10000x256 .bf16) (harg10 : arg10.IsWhole) (arg11 : Memref sig .tc .vmem S10000x128 .f32) (harg11 : arg11.IsWhole) (arg12 : Memref sig .tc .vmem S10000x128 .f32) (harg12 : arg12.IsWhole) (arg13 : Memref sig .tc .vmem S1x128 .f32) (harg13 : arg13.IsWhole) (hc0 : ¬cond0_0 i) (hc1 : cond0_1 i) (hc2 : ¬cond0_2 i)
    (x0 : Vec F S10000x128 .f32) (x1 : Vec F S10000x128 .f32) (x2 : Vec F S128x128 .f32) (x3 : Vec F S1x128 .f32) (x4 : Vec F S400x10000 .f32) (x5 : Vec F S1x1 .f32) (x6 : Vec F S128x128 .f32) (x7 : Vec F S1x1 .f32) (xs0 : Vec F S10000x256 .bf16) (d1 d2 : Vec F S10000x128 .f32) (xs3 : Vec F S1x128 .f32) (d8 : Vec F S2x10000 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d8 ∗ owns (c : Thread nD τ) arg10 fullShare xs0 ∗ owns (c : Thread nD τ) arg11 fullShare d1 ∗ owns (c : Thread nD τ) arg12 fullShare d2 ∗ owns (c : Thread nD τ) arg13 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d8 ∗ owns (c : Thread nD τ) arg10 fullShare xs0 ∗ owns (c : Thread nD τ) arg11 fullShare (putRows (400 * (i 0).val) (k0_pay6 x4 xs0 x5 x6) d1) ∗ owns (c : Thread nD τ) arg12 fullShare (putRows (400 * (i 0).val) (k0_pay7 x4 xs0 x5 x6) d2) ∗ owns (c : Thread nD τ) arg13 fullShare (k0_pay4 x4 xs0 x5 xs3)) -∗ K ⟨⟩))
          ⊢ wp frame (wpE (defs₀ (F := F)) Variants.none c none) E (cc0__dgi_kernel i arg1 harg1 arg2 harg2 arg3 harg3 arg4 harg4 arg5 harg5 arg6 harg6 arg7 harg7 arg8 harg8 arg9 harg9 arg10 harg10 arg11 harg11 arg12 harg12 arg13 harg13) K := by
  simp only [cc0__dgi_kernel_eq_skeleton]; unfold cc0__dgi_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fH8, %hfH8, H8⟩, ⟨%fHS0, %hfHS0, HS0⟩, ⟨%fHS1, %hfHS1, HS1⟩, ⟨%fHS2, %hfHS2, HS2⟩, ⟨%fHS3, %hfHS3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfH8; obtain rfl := harg10.eq_unread hfHS0; obtain rfl := harg11.eq_unread hfHS1; obtain rfl := harg12.eq_unread hfHS2; obtain rfl := harg13.eq_unread hfHS3
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HS0]
  · iexists _; isplitr; · ipureintro; exact harg10.read_unread _
    iexact HS0
  isplitl [HS1]
  · iexists _; isplitr; swap; · iexact HS1
    ipureintro
    refine stRows _ _ _ _ _ _ ?_
    congr 1 <;> exact rdAll _ _ _
  isplitl [HS2]
  · iexists _; isplitr; swap; · iexact HS2
    ipureintro
    refine stRows _ _ _ _ _ _ ?_
    congr 1 <;> exact rdAll _ _ _
  iexists _; isplitr; swap; · iexact HS3
  ipureintro
  refine (View.read_writes_full _ _ _ _ _).trans ?_
  congr 1 <;> exact rdAll _ _ _

end Cert.KernelIdeal.Own

end
-- ==== Proof.RunC.lean ====
/- The body at the last point, run. -/
module

public import proofs.«01_k».proof.Proof.Setup

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point, after the point's rows are stored as at any other, the scores are computed chunk by chunk from the
    whole of the two products and the whole sum. -/
theorem runC (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S1x1 .f32) (harg6 : arg6.IsWhole) (arg7 : Memref sig .tc .vmem S128x128 .f32) (harg7 : arg7.IsWhole) (arg8 : Memref sig .tc .vmem S1x1 .f32) (harg8 : arg8.IsWhole) (arg9 : Memref sig .tc .vmem S2x10000 .f32) (harg9 : arg9.IsWhole) (arg10 : Memref sig .tc .vmem S10000x256 .bf16) (harg10 : arg10.IsWhole) (arg11 : Memref sig .tc .vmem S10000x128 .f32) (harg11 : arg11.IsWhole) (arg12 : Memref sig .tc .vmem S10000x128 .f32) (harg12 : arg12.IsWhole) (arg13 : Memref sig .tc .vmem S1x128 .f32) (harg13 : arg13.IsWhole) (hc0 : ¬cond0_0 i) (hc1 : cond0_1 i) (hc2 : cond0_2 i)
    (x0 : Vec F S10000x128 .f32) (x1 : Vec F S10000x128 .f32) (x2 : Vec F S128x128 .f32) (x3 : Vec F S1x128 .f32) (x4 : Vec F S400x10000 .f32) (x5 : Vec F S1x1 .f32) (x6 : Vec F S128x128 .f32) (x7 : Vec F S1x1 .f32) (xs0 : Vec F S10000x256 .bf16) (d1 d2 : Vec F S10000x128 .f32) (xs3 : Vec F S1x128 .f32) (d8 : Vec F S2x10000 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d8 ∗ owns (c : Thread nD τ) arg10 fullShare xs0 ∗ owns (c : Thread nD τ) arg11 fullShare d1 ∗ owns (c : Thread nD τ) arg12 fullShare d2 ∗ owns (c : Thread nD τ) arg13 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (scores (k0_pay4 x4 xs0 x5 xs3) x7 (putRows (400 * (i 0).val) (k0_pay6 x4 xs0 x5 x6) d1) (putRows (400 * (i 0).val) (k0_pay7 x4 xs0 x5 x6) d2)) ∗ owns (c : Thread nD τ) arg10 fullShare xs0 ∗ owns (c : Thread nD τ) arg11 fullShare (putRows (400 * (i 0).val) (k0_pay6 x4 xs0 x5 x6) d1) ∗ owns (c : Thread nD τ) arg12 fullShare (putRows (400 * (i 0).val) (k0_pay7 x4 xs0 x5 x6) d2) ∗ owns (c : Thread nD τ) arg13 fullShare (k0_pay4 x4 xs0 x5 xs3)) -∗ K ⟨⟩))
          ⊢ wp frame (wpE (defs₀ (F := F)) Variants.none c none) E (cc0__dgi_kernel i arg1 harg1 arg2 harg2 arg3 harg3 arg4 harg4 arg5 harg5 arg6 harg6 arg7 harg7 arg8 harg8 arg9 harg9 arg10 harg10 arg11 harg11 arg12 harg12 arg13 harg13) K := by
  simp only [cc0__dgi_kernel_eq_skeleton]; unfold cc0__dgi_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fH8, %hfH8, H8⟩, ⟨%fHS0, %hfHS0, HS0⟩, ⟨%fHS1, %hfHS1, HS1⟩, ⟨%fHS2, %hfHS2, HS2⟩, ⟨%fHS3, %hfHS3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfH8; obtain rfl := harg10.eq_unread hfHS0; obtain rfl := harg11.eq_unread hfHS1; obtain rfl := harg12.eq_unread hfHS2; obtain rfl := harg13.eq_unread hfHS3
  sl_exec (disch := first | sl_exact hc0 | sl_exact hc1 | sl_exact hc2)
  sl_step
  have e9 : runC.sl.v9 c arg5 harg5 arg6 harg6 arg10 harg10 arg13 harg13 x4 x5 xs0 xs3 = k0_pay4 x4 xs0 x5 xs3 :=
    (View.readCov_full _ _ _ _ _).trans (by congr 1 <;> exact rdAll _ _ _)
  have e19 : runC.sl.v19 c i arg5 harg5 arg6 harg6 arg7 harg7 arg10 harg10 arg11 harg11 hc1 x4 x5 x6 xs0 d1
      = chunk (putRows (400 * (i 0).val) (k0_pay6 x4 xs0 x5 x6) d1) 0 :=
    rdChunk harg11 d1 i _ _ _ (by congr 1 <;> exact rdAll _ _ _) 0 0 rfl _
  have e35 : runC.sl.v35 c i arg5 harg5 arg6 harg6 arg7 harg7 arg10 harg10 arg12 harg12 hc1 x4 x5 x6 xs0 d2
      = chunk (putRows (400 * (i 0).val) (k0_pay7 x4 xs0 x5 x6) d2) 0 :=
    rdChunk harg12 d2 i _ _ _ (by congr 1 <;> exact rdAll _ _ _) 0 0 rfl _
  have e51 : runC.sl.v51 c i arg5 harg5 arg6 harg6 arg7 harg7 arg10 harg10 arg11 harg11 hc1 x4 x5 x6 xs0 d1
      = chunk (putRows (400 * (i 0).val) (k0_pay6 x4 xs0 x5 x6) d1) 1 :=
    rdChunk harg11 d1 i _ _ _ (by congr 1 <;> exact rdAll _ _ _) 1 2500 rfl _
  have e67 : runC.sl.v67 c i arg5 harg5 arg6 harg6 arg7 harg7 arg10 harg10 arg12 harg12 hc1 x4 x5 x6 xs0 d2
      = chunk (putRows (400 * (i 0).val) (k0_pay7 x4 xs0 x5 x6) d2) 1 :=
    rdChunk harg12 d2 i _ _ _ (by congr 1 <;> exact rdAll _ _ _) 1 2500 rfl _
  have e83 : runC.sl.v83 c i arg5 harg5 arg6 harg6 arg7 harg7 arg10 harg10 arg11 harg11 hc1 x4 x5 x6 xs0 d1
      = chunk (putRows (400 * (i 0).val) (k0_pay6 x4 xs0 x5 x6) d1) 2 :=
    rdChunk harg11 d1 i _ _ _ (by congr 1 <;> exact rdAll _ _ _) 2 5000 rfl _
  have e99 : runC.sl.v99 c i arg5 harg5 arg6 harg6 arg7 harg7 arg10 harg10 arg12 harg12 hc1 x4 x5 x6 xs0 d2
      = chunk (putRows (400 * (i 0).val) (k0_pay7 x4 xs0 x5 x6) d2) 2 :=
    rdChunk harg12 d2 i _ _ _ (by congr 1 <;> exact rdAll _ _ _) 2 5000 rfl _
  have e115 : runC.sl.v115 c i arg5 harg5 arg6 harg6 arg7 harg7 arg10 harg10 arg11 harg11 hc1 x4 x5 x6 xs0 d1
      = chunk (putRows (400 * (i 0).val) (k0_pay6 x4 xs0 x5 x6) d1) 3 :=
    rdChunk harg11 d1 i _ _ _ (by congr 1 <;> exact rdAll _ _ _) 3 7500 rfl _
  have e131 : runC.sl.v131 c i arg5 harg5 arg6 harg6 arg7 harg7 arg10 harg10 arg12 harg12 hc1 x4 x5 x6 xs0 d2
      = chunk (putRows (400 * (i 0).val) (k0_pay7 x4 xs0 x5 x6) d2) 3 :=
    rdChunk harg12 d2 i _ _ _ (by congr 1 <;> exact rdAll _ _ _) 3 7500 rfl _
  have eb : View.readAt (Elt F) arg8.view (Rect.unit ![0, 0] S1x1.size inb_S1x1_S1x1_0_0).toLoadRect (harg8.unread x7) = x7 := rdAll _ _ _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    refine rdScores _ _ _ _ _ _ _ _ _ _ _ _ _ _ _ _ _ _ _ _ _ ?_ ?_ ?_ ?_ ?_ ?_ ?_ ?_
    · have e := scoreCongr (F := F) e9 eb e19
      exact e
    · have e := scoreCongr (F := F) e9 eb e35
      exact e
    · have e := scoreCongr (F := F) e9 eb e51
      exact e
    · have e := scoreCongr (F := F) e9 eb e67
      exact e
    · have e := scoreCongr (F := F) e9 eb e83
      exact e
    · have e := scoreCongr (F := F) e9 eb e99
      exact e
    · have e := scoreCongr (F := F) e9 eb e115
      exact e
    · have e := scoreCongr (F := F) e9 eb e131
      exact e
  isplitl [HS0]
  · iexists _; isplitr; · ipureintro; exact harg10.read_unread _
    iexact HS0
  isplitl [HS1]
  · iexists _; isplitr; swap; · iexact HS1
    ipureintro
    refine stRows _ _ _ _ _ _ ?_
    congr 1 <;> exact rdAll _ _ _
  isplitl [HS2]
  · iexists _; isplitr; swap; · iexact HS2
    ipureintro
    refine stRows _ _ _ _ _ _ ?_
    congr 1 <;> exact rdAll _ _ _
  iexists _; isplitr; swap; · iexact HS3
  ipureintro
  refine (View.read_writes_full _ _ _ _ _).trans ?_
  congr 1 <;> exact rdAll _ _ _

end Cert.KernelIdeal.Own

end
-- ==== Proof.Inv.lean ====
/- The launch of the kernel over the reals: what its scratch buffers hold between points, and the run it gives. -/
module

public import proofs.«01_k».proof.Proof.RunA
public import proofs.«01_k».proof.Proof.RunB
public import proofs.«01_k».proof.Proof.RunC

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold -/

/-- The first point. -/
abbrev pFirst : Fin cfg0.N := ⟨0, by rw [show cfg0.N = 25 from N_0]; decide⟩

/-- The point that handles row `r`. -/
abbrev ptOf (r : ℕ) (h : r < 10000) : Fin cfg0.N := ⟨r / 400, by rw [show cfg0.N = 25 from N_0]; omega⟩

/-- The two transformed feature matrices, side by side. -/
def xm (c : Dev nD) : Vec F S10000x256 .bf16 :=
  k0_pay1 (iblk m c 2 pFirst) (iblk m c 3 pFirst) (iblk m c 0 pFirst) (iblk m c 1 pFirst)

/-- The running sum of rows after `n` points. -/
def sm (c : Dev nD) : (n : ℕ) → n ≤ cfg0.N → Vec F S1x128 .f32
  | 0, _ => k0_pay2
  | n + 1, h => k0_pay4 (iblk m c 4 ⟨n, h⟩) (xm m c) (iblk m c 5 ⟨n, h⟩) (sm c n (Nat.le_of_lt h))

/-- The product of the positive rows, every row. -/
def tpAll (c : Dev nD) : Vec F S10000x128 .f32 := fun y =>
  k0_pay6 (iblk m c 4 (ptOf (y (0 : Fin 2)).val (y (0 : Fin 2)).isLt)) (xm m c) (iblk m c 5 (ptOf (y (0 : Fin 2)).val (y (0 : Fin 2)).isLt))
    (iblk m c 6 (ptOf (y (0 : Fin 2)).val (y (0 : Fin 2)).isLt)) (ix2 ⟨(y (0 : Fin 2)).val % 400, Nat.mod_lt _ (by norm_num)⟩ ⟨(y (1 : Fin 2)).val, (y (1 : Fin 2)).isLt⟩)

/-- The product of the negative rows, every row. -/
def tnAll (c : Dev nD) : Vec F S10000x128 .f32 := fun y =>
  k0_pay7 (iblk m c 4 (ptOf (y (0 : Fin 2)).val (y (0 : Fin 2)).isLt)) (xm m c) (iblk m c 5 (ptOf (y (0 : Fin 2)).val (y (0 : Fin 2)).isLt))
    (iblk m c 6 (ptOf (y (0 : Fin 2)).val (y (0 : Fin 2)).isLt)) (ix2 ⟨(y (0 : Fin 2)).val % 400, Nat.mod_lt _ (by norm_num)⟩ ⟨(y (1 : Fin 2)).val, (y (1 : Fin 2)).isLt⟩)

/-- The contents `d` agree with `T` on the rows of the first `n` points. -/
def Done (n : ℕ) (T d : Vec F S10000x128 .f32) : Prop := ∀ y : S10000x128.Idx, (y (0 : Fin 2)).val < 400 * n → d y = T y

/-- Storing one more point's rows. -/
theorem Done.step {n : ℕ} {T d : Vec F S10000x128 .f32} (p : Vec F S400x128 .f32) (hd : Done n T d)
    (hp : ∀ (y : S10000x128.Idx) (h : (y (0 : Fin 2)).val < 10000), (y (0 : Fin 2)).val / 400 = n →
      T y = p (ix2 ⟨(y (0 : Fin 2)).val % 400, Nat.mod_lt _ (by norm_num)⟩ ⟨(y (1 : Fin 2)).val, (y (1 : Fin 2)).isLt⟩)) :
    Done (n + 1) T (putRows (400 * n) p d) := by
  intro y hy
  have h1 : (y (1 : Fin 2)).val < 128 := (y (1 : Fin 2)).isLt
  by_cases h : (y (0 : Fin 2)).val < 400 * n
  · rw [← hd y h]
    refine dif_neg fun hh => ?_
    have := (hh (0 : Fin 2)).1
    have e : (![400 * n, 0] : Fin 2 → ℕ) (0 : Fin 2) = 400 * n := rfl
    exact absurd h (Nat.not_lt.mpr this)
  · rw [hp y (y (0 : Fin 2)).isLt (by omega)]
    have hin : ∀ a : Fin 2, (![400 * n, 0] : Fin 2 → ℕ) a ≤ (y a).val ∧ (y a).val < (![400 * n, 0] : Fin 2 → ℕ) a + S400x128.size a := fun a => by
      match a with
      | ⟨0, _⟩ => exact ⟨Nat.not_lt.mp h, show (y (0 : Fin 2)).val < 400 * n + 400 by omega⟩
      | ⟨1, _⟩ => exact ⟨Nat.zero_le _, show (y (1 : Fin 2)).val < 0 + 128 by omega⟩
    refine (dif_pos hin).trans (congrArg p (funext fun a => Fin.ext ?_))
    match a with
    | ⟨0, _⟩ => show (y (0 : Fin 2)).val - 400 * n = (y (0 : Fin 2)).val % 400; omega
    | ⟨1, _⟩ => exact Nat.sub_zero _

/-- Nothing is stored before the first point. -/
theorem Done.zero (T d : Vec F S10000x128 .f32) : Done 0 T d := fun _ h => absurd h (Nat.not_lt_zero _)

/-- After the last point every row is stored. -/
theorem Done.all {T d : Vec F S10000x128 .f32} (h : Done 25 T d) : d = T := funext fun y => h y (y (0 : Fin 2)).isLt

/-- The grid coordinate of a point is the point. -/
theorem coord_eq (t : Fin cfg0.N) : (grid0.coords t 0).val = t.val := by
  have ht : t.val < 25 := Nat.lt_of_lt_of_eq t.isLt N_0
  have e0 : (grid0.coords t 0).val = t.val / 1 % 25 := Pipeline.Grid.coords_val t 0 (by decide) rfl
  omega

/-- A point's positive rows are stored. -/
theorem step_tp (c : Dev nD) (t : Fin cfg0.N) {d : Vec F S10000x128 .f32} (hd : Done t.val (tpAll m c) d) :
    Done (t.val + 1) (tpAll m c) (putRows (400 * (grid0.coords t 0).val) (k0_pay6 (iblk m c 4 t) (xm m c) (iblk m c 5 t) (iblk m c 6 t)) d) := by
  rw [coord_eq]
  refine hd.step _ fun y h e => ?_
  obtain rfl : ptOf (y (0 : Fin 2)).val h = t := Fin.ext e
  rfl

/-- A point's negative rows are stored. -/
theorem step_tn (c : Dev nD) (t : Fin cfg0.N) {d : Vec F S10000x128 .f32} (hd : Done t.val (tnAll m c) d) :
    Done (t.val + 1) (tnAll m c) (putRows (400 * (grid0.coords t 0).val) (k0_pay7 (iblk m c 4 t) (xm m c) (iblk m c 5 t) (iblk m c 6 t)) d) := by
  rw [coord_eq]
  refine hd.step _ fun y h e => ?_
  obtain rfl : ptOf (y (0 : Fin 2)).val h = t := Fin.ext e
  rfl

/-! ## The invariant -/

/-- Before the first point the scratch holds anything; after point `n` it holds the features, the sum so far and the
    rows stored so far. -/
def PhiS (c : Dev nD) : (n : ℕ) → n ≤ cfg0.N → sProp 𝕄
  | 0, _ => Pipeline.ΦA spec0 c
  | n + 1, hn => iprop(iprop(owns (c : Thread nD τ) scM0_0 fullShare (xm m c)
      ∗ (∃ d, owns (c : Thread nD τ) scM0_1 fullShare d ∗ ⌜Done (n + 1) (tpAll m c) d⌝)
      ∗ (∃ d, owns (c : Thread nD τ) scM0_2 fullShare d ∗ ⌜Done (n + 1) (tnAll m c) d⌝)
      ∗ owns (c : Thread nD τ) scM0_3 fullShare (sm m c (n + 1) hn)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (xm m c)
      ∗ (∃ d, owns (c : Thread nD τ) scM0_1 fullShare d ∗ ⌜Done n (tpAll m c) d⌝)
      ∗ (∃ d, owns (c : Thread nD τ) scM0_2 fullShare d ∗ ⌜Done n (tnAll m c) d⌝)
      ∗ owns (c : Thread nD τ) scM0_3 fullShare (sm m c n h)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => scores (sm m c (t.val + 1) t.isLt) (iblk m c 7 t) (tpAll m c) (tnAll m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) :
    (dats m 0 c).after 8 t = scores (sm m c (t.val + 1) t.isLt) (iblk m c 7 t) (tpAll m c) (tnAll m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]

/-- The result's buffer is handed back as found at every point but the last, -/
theorem leaves0_8_idle (c : Dev nD) (t : Fin cfg0.N) (h : ¬t.val % 25 = 24) :
    (dats m 0 c).leavesExact 8 t = iprop(∃ d, owns (c : Thread nD τ) (ms0_8 t) fullShare ((dats m 0 c).before 8 t d)) :=
  (dats m 0 c).leavesExact_idle 8 t (by
      show (!(k0_cond3 (grid0.coords t) == 1#1)) = true
      have : ¬k0_cond3 (grid0.coords t) = 1#1 := fun e => h ((hcond0_2 t).mp e)
      simp [this])
    (by
      have : ¬(cfg0.win 8).flush t = true := fun e => h ((flush0_8 t).mp e)
      simpa using this)

/-- and holds the scores after the last. -/
theorem leaves0_8_live (c : Dev nD) (t : Fin cfg0.N) (h : t.val % 25 = 24) :
    (dats m 0 c).leavesExact 8 t = owns (c : Thread nD τ) (ms0_8 t) fullShare (scores (sm m c (t.val + 1) t.isLt) (iblk m c 7 t) (tpAll m c) (tnAll m c)) := by
  have e : cfg0.idle 8 (grid0.coords t) = false := by
    show (!(k0_cond3 (grid0.coords t) == 1#1)) = false
    rw [(hcond0_2 t).mpr h]; rfl
  unfold Dat.leavesExact; rw [e, after0_8]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point takes the invariant before the point to the invariant after it. -/
theorem sound_body (c : Dev nD) (t : Fin cfg0.N) :
    bodyPre m c t ⊢ wp frame (wpE (defs₀ (F := F)) Variants.none c none) Set.univ (bodyAt0 t) (fun _ => bodyPost m c t) := by
  have hN : t.val < 25 := lt_of_lt_of_eq t.isLt (show cfg0.N = 25 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _)]
  rw [leaves0_0 m c t, leaves0_1 m c t, leaves0_2 m c t, leaves0_3 m c t, leaves0_4 m c t, leaves0_5 m c t, leaves0_6 m c t, leaves0_7 m c t]
  rw [PhiS_castSucc m c t]
  by_cases h0 : t.val = 0
  · have h2 : ¬t.val % 25 = 24 := by omega
    obtain rfl : pFirst = t := Fin.ext h0.symm
    rw [leaves0_8_idle m c _ h2, PhiS_zero m c _ _ rfl, PhiA0_eq]
    iintro ⟨⟨⟨HS0, ⟨%e1, HS1⟩, ⟨%e2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords pFirst) _ _ _ _ _ _ _ _ _ _ _ _ _ _ _ _ _ _ _ _ _ _ _ _ _ _ ((hcond0_0 pFirst).mpr rfl) (hcond0_1 pFirst) (fun h => h2 ((hcond0_2 pFirst).mp h)) (iblk m c 0 pFirst) (iblk m c 1 pFirst) (iblk m c 2 pFirst) (iblk m c 3 pFirst) (iblk m c 4 pFirst) (iblk m c 5 pFirst) (iblk m c 6 pFirst) (iblk m c 7 pFirst) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]
        · iexact HS0
        isplitl [HS1]
        · iexists _; isplitl [HS1]; · iexact HS1
          ipureintro; exact step_tp m c pFirst (Done.zero _ _)
        isplitl [HS2]
        · iexists _; isplitl [HS2]; · iexact HS2
          ipureintro; exact step_tn m c pFirst (Done.zero _ _)
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  by_cases h2 : t.val % 25 = 24
  · rw [leaves0_8_live m c t h2, PhiS_pos m c _ _ h0]
    iintro ⟨⟨⟨HS0, ⟨%e1, HS1, %hd1⟩, ⟨%e2, HS2, %hd2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runC c (grid0.coords t) _ _ _ _ _ _ _ _ _ _ _ _ _ _ _ _ _ _ _ _ _ _ _ _ _ _ (fun h => h0 (by have := (hcond0_0 t).mp h; omega)) (hcond0_1 t) ((hcond0_2 t).mpr h2) (iblk m c 0 t) (iblk m c 1 t) (iblk m c 2 t) (iblk m c 3 t) (iblk m c 4 t) (iblk m c 5 t) (iblk m c 6 t) (iblk m c 7 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    have e25 : t.val + 1 = 25 := by omega
    have a1 := (e25 ▸ step_tp m c t hd1 : Done 25 _ _).all
    have a2 := (e25 ▸ step_tn m c t hd2 : Done 25 _ _).all
    isplitl [HS0 HS1 HS2 HS3 Hg]
    · isplitl [HS0 HS1 HS2 HS3]
      · isplitl [HS0]
        · iexact HS0
        isplitl [HS1]
        · iexists _; isplitl [HS1]; · iexact HS1
          ipureintro; exact step_tp m c t hd1
        isplitl [HS2]
        · iexists _; isplitl [HS2]; · iexact HS2
          ipureintro; exact step_tn m c t hd2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [a1, a2]
    iexact H8
  · rw [leaves0_8_idle m c t h2, PhiS_pos m c _ _ h0]
    iintro ⟨⟨⟨HS0, ⟨%e1, HS1, %hd1⟩, ⟨%e2, HS2, %hd2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ _ _ _ _ _ _ (fun h => h0 (by have := (hcond0_0 t).mp h; omega)) (hcond0_1 t) (fun h => h2 ((hcond0_2 t).mp h)) (iblk m c 0 t) (iblk m c 1 t) (iblk m c 2 t) (iblk m c 3 t) (iblk m c 4 t) (iblk m c 5 t) (iblk m c 6 t) (iblk m c 7 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]
        · iexact HS0
        isplitl [HS1]
        · iexists _; isplitl [HS1]; · iexact HS1
          ipureintro; exact step_tp m c t hd1
        isplitl [HS2]
        · iexists _; isplitl [HS2]; · iexact HS2
          ipureintro; exact step_tn m c t hd2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), PhiA0_eq]
  iintro ⟨⟨HS0, ⟨%e1, HS1, -⟩, ⟨%e2, HS2, -⟩, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
set_option maxHeartbeats 800000 in
/-- The launch: every array and buffer at what the proof data say, every counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Own

end
-- ==== Proof.Out.lean ====
/- The kernel over the reals from outside: its result array after the launch, the blocks its points read, and its run. -/
module

public import proofs.«01_k».proof.Proof.Inv

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The last grid point. -/
def pLast : Fin cfg0.N := ⟨24, by rw [show cfg0.N = 25 from N_0]; decide⟩

/-- The result array [2, 10000] after the launch. -/
abbrev outArr (c : Dev nD) : Buf (Elt F) ((c.tc : Thread nD τ).loc main_v6) :=
  scores (sm m c 25 (by rw [show cfg0.N = 25 from N_0])) (iblk m c 7 pLast) (tpAll m c) (tnAll m c)

/-- Only the last point writes the result back, and it writes all of it. -/
theorem flushed_eq (c : Dev nD) (t : Fin cfg0.N) (hf : (cfg0.win 8).flush t = true) :
    (dats m 0 c).flushed 8 t = ((cfg0.win 8).blk t).view.read (Elt F) (outArr m c) := by
  have hN : cfg0.N = 25 := N_0
  have h3 : t.val = 24 := by have := (flush0_8 t).mp hf; have := t.isLt; omega
  obtain rfl : t = pLast := Fin.ext h3
  show (cfg0.win 8).cut (grid0.coords pLast) ((dats m 0 c).after 8 pLast) = _
  rw [after0_8]
  have hz' : (fun a => win0_8.index pLast a * main_v6.ty.shape.size a) = fun _ => 0 := funext fun a => by fin_cases a <;> rfl
  exact (Memref.read_access_unit_zero (Elt F) main_v6 hz' (fun a => by rw [congrFun hz' a]; simp) (outArr m c)).symm

/-- So the result array ends as the last point leaves it. -/
theorem final_o (c : Dev nD) : (dats m 0 c).arrAt 8 cfg0.N = outArr m c :=
  (dats m 0 c).arrAt_eq_of_cover 8 (outArr m c) (flushed_eq m c) fun i =>
    ⟨pLast, (flush0_8 pLast).mpr rfl, by
      show i ∈ ((View.whole main_v6).slice (win0_8.rect pLast)).set
      rw [View.set_slice_whole, Rect.mem_set_unit]
      intro a
      have h0 : (i 0 : Nat) < 2 := (i 0).isLt
      have h1 : (i 1 : Nat) < 10000 := (i 1).isLt
      match a with
      | ⟨0, _⟩ => show win0_8.index pLast 0 * win0_8.size 0 ≤ (i 0 : Nat) ∧ (i 0 : Nat) < win0_8.index pLast 0 * win0_8.size 0 + win0_8.xsize (grid0.coords pLast) 0
                  rw [show win0_8.index pLast 0 * win0_8.size 0 = 0 from by decide +kernel, show win0_8.xsize (grid0.coords pLast) 0 = 2 from by decide +kernel]; omega
      | ⟨1, _⟩ => show win0_8.index pLast 1 * win0_8.size 1 ≤ (i 1 : Nat) ∧ (i 1 : Nat) < win0_8.index pLast 1 * win0_8.size 1 + win0_8.xsize (grid0.coords pLast) 1
                  rw [show win0_8.index pLast 1 * win0_8.size 1 = 0 from by decide +kernel, show win0_8.xsize (grid0.coords pLast) 1 = 10000 from by decide +kernel]; omega⟩

/-- The value the program returns. -/
def res (c : Dev nD) : Buf (Elt F) ((c.tc : Thread nD τ).loc main_v7) :=
  (shapeCast S1x20000 (outArr m c : Vec F S2x10000 .f32) shapeCasts_S2x10000_S1x20000 : Vec F S1x20000 .f32)

/-- The host's last operation lays the two score rows end to end. -/
theorem tail_v7 (c : Dev nD) : Pipeline.afterTail₀ cfgs (dats m) 0 (V0 m) [hostOps1] c main_v7 = res m c := by
  unfold Pipeline.afterTail₀
  simp only [hostOps1, List.flatten_cons, List.flatten_nil, List.append_nil]
  after_results_simp
  have h := Pipeline.withArrays_arr spec0 launch0.win.arr_inj c (V0 m c) (fun w => (dats m 0 c).arrAt w cfg0.N) 8
  rw [final_o] at h
  exact congrArg (fun x : Vec F S2x10000 .f32 => (shapeCast S1x20000 x shapeCasts_S2x10000_S1x20000 : Vec F S1x20000 .f32)) h

/-! ## The blocks the points read, as the arguments -/

theorem blk0 (c : Dev nD) (t : Fin cfg0.N) : iblk m c 0 t = V m c main_v0 := by
  have hz' : (fun a => win0_0.index t a * main_v0.ty.shape.size a) = fun _ => 0 := funext fun a => by fin_cases a <;> exact Nat.zero_mul _
  unfold iblk
  exact Memref.read_access_unit_zero (Elt F) main_v0 hz' (fun a => by rw [congrFun hz' a]; simp) (V m c main_v0)

theorem blk1 (c : Dev nD) (t : Fin cfg0.N) : iblk m c 1 t = V m c main_v1 := by
  have hz' : (fun a => win0_1.index t a * main_v1.ty.shape.size a) = fun _ => 0 := funext fun a => by fin_cases a <;> exact Nat.zero_mul _
  unfold iblk
  exact Memref.read_access_unit_zero (Elt F) main_v1 hz' (fun a => by rw [congrFun hz' a]; simp) (V m c main_v1)

theorem blk2 (c : Dev nD) (t : Fin cfg0.N) : iblk m c 2 t = V m c main_arg3 := by
  have hz' : (fun a => win0_2.index t a * main_arg3.ty.shape.size a) = fun _ => 0 := funext fun a => by fin_cases a <;> exact Nat.zero_mul _
  unfold iblk
  exact Memref.read_access_unit_zero (Elt F) main_arg3 hz' (fun a => by rw [congrFun hz' a]; simp) (V m c main_arg3)

theorem blk3 (c : Dev nD) (t : Fin cfg0.N) : iblk m c 3 t = V m c main_v2 := by
  have hz' : (fun a => win0_3.index t a * main_v2.ty.shape.size a) = fun _ => 0 := funext fun a => by fin_cases a <;> exact Nat.zero_mul _
  unfold iblk
  exact Memref.read_access_unit_zero (Elt F) main_v2 hz' (fun a => by rw [congrFun hz' a]; simp) (V m c main_v2)

theorem blk5 (c : Dev nD) (t : Fin cfg0.N) : iblk m c 5 t = V m c main_v3 := by
  have hz' : (fun a => win0_5.index t a * main_v3.ty.shape.size a) = fun _ => 0 := funext fun a => by fin_cases a <;> exact Nat.zero_mul _
  unfold iblk
  exact Memref.read_access_unit_zero (Elt F) main_v3 hz' (fun a => by rw [congrFun hz' a]; simp) (V m c main_v3)

theorem blk6 (c : Dev nD) (t : Fin cfg0.N) : iblk m c 6 t = V m c main_v4 := by
  have hz' : (fun a => win0_6.index t a * main_v4.ty.shape.size a) = fun _ => 0 := funext fun a => by fin_cases a <;> exact Nat.zero_mul _
  unfold iblk
  exact Memref.read_access_unit_zero (Elt F) main_v4 hz' (fun a => by rw [congrFun hz' a]; simp) (V m c main_v4)

theorem blk7 (c : Dev nD) (t : Fin cfg0.N) : iblk m c 7 t = V m c main_v5 := by
  have hz' : (fun a => win0_7.index t a * main_v5.ty.shape.size a) = fun _ => 0 := funext fun a => by fin_cases a <;> exact Nat.zero_mul _
  unfold iblk
  exact Memref.read_access_unit_zero (Elt F) main_v5 hz' (fun a => by rw [congrFun hz' a]; simp) (V m c main_v5)

theorem V_v0 (c : Dev nD) : V m c main_v0 = shapeCast S10000x128 (m ((c.tc : Thread nD τ).loc main_arg0) : Vec F S1x10000x128 .f32) shapeCasts_S1x10000x128_S10000x128 := by
  simp only [V, V0, hostOps0, List.flatten_cons, List.flatten_nil, List.append_nil]
  after_results_simp
  rfl

theorem V_v1 (c : Dev nD) : V m c main_v1 = shapeCast S10000x128 (m ((c.tc : Thread nD τ).loc main_arg1) : Vec F S1x10000x128 .f32) shapeCasts_S1x10000x128_S10000x128 := by
  simp only [V, V0, hostOps0, List.flatten_cons, List.flatten_nil, List.append_nil]
  after_results_simp
  rfl

theorem V_v2 (c : Dev nD) : V m c main_v2 = shapeCast S1x128 (m ((c.tc : Thread nD τ).loc main_arg4) : Vec F S128 .f32) shapeCasts_S128_S1x128 := by
  simp only [V, V0, hostOps0, List.flatten_cons, List.flatten_nil, List.append_nil]
  after_results_simp
  rfl

theorem V_v3 (c : Dev nD) : V m c main_v3 = shapeCast S1x1 (m ((c.tc : Thread nD τ).loc main_arg5) : Vec F S_ .f32) shapeCasts_S_S1x1 := by
  simp only [V, V0, hostOps0, List.flatten_cons, List.flatten_nil, List.append_nil]
  after_results_simp
  rfl

theorem V_v4 (c : Dev nD) : V m c main_v4 = shapeCast S128x128 (m ((c.tc : Thread nD τ).loc main_arg6) : Vec F S1x128x128 .f32) shapeCasts_S1x128x128_S128x128 := by
  simp only [V, V0, hostOps0, List.flatten_cons, List.flatten_nil, List.append_nil]
  after_results_simp
  rfl

theorem V_v5 (c : Dev nD) : V m c main_v5 = shapeCast S1x1 (m ((c.tc : Thread nD τ).loc main_arg7) : Vec F S1 .f32) shapeCasts_S1_S1x1 := by
  simp only [V, V0, hostOps0, List.flatten_cons, List.flatten_nil, List.append_nil]
  after_results_simp
  rfl

/-- The block of the adjacency matrix that point `t` reads: rows `400 t` to `400 t + 399`. -/
theorem blk4 (c : Dev nD) (t : Fin cfg0.N) (r : Fin 400) (l : Fin 10000) :
    (iblk m c 4 t : Vec F S400x10000 .f32) (ix2 r l)
      = (m ((c.tc : Thread nD τ).loc main_arg2) : Vec F S10000x10000 .f32)
          (ix2 ⟨400 * t.val + r.val, by have := t.isLt; have : cfg0.N = 25 := N_0; omega⟩ l) := by
  have hi : win0_4.index t 0 = t.val ∧ win0_4.index t 1 = 0 :=
    (by decide +kernel : ∀ t : Fin grid0.N, win0_4.index t 0 = t.val ∧ win0_4.index t 1 = 0) t
  unfold iblk
  rw [View.read_apply]
  show V m c main_arg2 _ = _
  rw [V_main_arg2]
  congr 1
  funext a
  apply Fin.ext
  match a with
  | ⟨0, _⟩ => show win0_4.index t 0 * 400 + 1 * r.val = 400 * t.val + r.val; rw [hi.1]; omega
  | ⟨1, _⟩ => show win0_4.index t 1 * 10000 + 1 * l.val = l.val; rw [hi.2]; omega

/-- The run: the returned array at its value, the arguments as launched, every counter at zero. -/
theorem run : θ_run defs (onTc (τ := τ) (main (F := F))) (s₀ m ρ) (fun r => (∀ c : Dev nD,
      r.2.mem ((c.tc : Thread nD τ).loc main_v7) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨((h.1 c).2 main_v7 (Pipeline.mem_restRefs_of main_v7 (by decide) (by decide))).trans (tail_v7 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 4).trans (((dats m 0 c).arrAt_in 4 rfl _).trans ((A_eq m c 4).trans (V_main_arg2 m c))),
      ((h.1 c).1 2).trans (((dats m 0 c).arrAt_in 2 rfl _).trans ((A_eq m c 2).trans (V_main_arg3 m c))),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c)⟩, h.2⟩)
    (launch m ρ)

end Cert.KernelIdeal.Own

end
-- ==== Proof.Spec.lean ====
/- The network's equations over the extended reals, which both programs are shown to compute, and where they are finite. -/
module

public import Idealize.ShloMosaic.PureOps.Ideal
public import Idealize.ShloMosaic.Lib.IdealHost

@[expose] public section

noncomputable section

namespace Cert.Dgi

open Idealize.ShloMosaic

/-- The linear layer: row `n` of `x` against row `j` of `W`, plus the bias. -/
def lin (x : Fin 10000 → Fin 128 → EReal) (W : Fin 128 → Fin 128 → EReal) (b : Fin 128 → EReal) (n : Fin 10000) (j : Fin 128) : EReal :=
  ∑ k : Fin 128, x n k * W j k + b j

/-- The leaky rectifier of slope `p`. -/
def prelu (p z : EReal) : EReal := if 0 ≤ z then z else p * z

/-- The hidden layer: the graph's weighted sum of the linear layer's rows, rectified. -/
def hid (a : Fin 10000 → Fin 10000 → EReal) (x : Fin 10000 → Fin 128 → EReal) (W : Fin 128 → Fin 128 → EReal) (b : Fin 128 → EReal)
    (p : EReal) (n : Fin 10000) (j : Fin 128) : EReal :=
  prelu p (∑ k : Fin 10000, a n k * lin x W b k j)

/-- The bilinear form's left half: row `n` of `h` through `Wb`. -/
def proj (h : Fin 10000 → Fin 128 → EReal) (Wb : Fin 128 → Fin 128 → EReal) (n : Fin 10000) (j : Fin 128) : EReal :=
  ∑ i : Fin 128, h n i * Wb i j

/-- The summary: the sigmoid of the mean row. -/
def summ (h : Fin 10000 → Fin 128 → EReal) (j : Fin 128) : EReal :=
  Ideal.logistic ((∑ n : Fin 10000, h n j) * ((1 / 10000 : ℝ) : EReal))

/-- Node `n`'s score against the summary `s`. -/
def sco (s : Fin 128 → EReal) (t : Fin 10000 → Fin 128 → EReal) (bb : EReal) (n : Fin 10000) : EReal :=
  ∑ j : Fin 128, s j * t n j + bb

/-- The score with the bilinear form's products written the other way round. -/
theorem sco_swap (s : Fin 128 → EReal) (h : Fin 10000 → Fin 128 → EReal) (Wb : Fin 128 → Fin 128 → EReal) (bb : EReal) (n : Fin 10000) :
    ∑ j : Fin 128, s j * (∑ i : Fin 128, Wb i j * h n i) + bb = sco s (proj h Wb) bb n := by
  simp only [sco, proj, mul_comm]

/-! ## Finite values -/

/-- A value that is a real number. -/
def Fine (x : EReal) : Prop := ∃ r : ℝ, x = (r : EReal)

theorem Fine.mul {x y : EReal} (hx : Fine x) (hy : Fine y) : Fine (x * y) := by
  obtain ⟨r, rfl⟩ := hx; obtain ⟨q, rfl⟩ := hy; exact ⟨r * q, by norm_cast⟩

theorem Fine.add {x y : EReal} (hx : Fine x) (hy : Fine y) : Fine (x + y) := by
  obtain ⟨r, rfl⟩ := hx; obtain ⟨q, rfl⟩ := hy; exact ⟨r + q, by norm_cast⟩

theorem Fine.sum {n : ℕ} {f : Fin n → EReal} (hf : ∀ i, Fine (f i)) : Fine (∑ i, f i) := by
  choose g hg using hf
  refine ⟨∑ i, g i, ?_⟩
  simp only [hg]
  exact (map_sum (⟨⟨Real.toEReal, EReal.coe_zero⟩, EReal.coe_add⟩ : ℝ →+ EReal) g Finset.univ).symm

theorem Fine.sub_self {x : EReal} (hx : Fine x) : x - x = 0 := by
  obtain ⟨r, rfl⟩ := hx; rw [← EReal.coe_sub, _root_.sub_self]; rfl

theorem Fine.prelu {p z : EReal} (hp : Fine p) (hz : Fine z) : Fine (prelu p z) := by
  unfold Dgi.prelu; split
  · exact hz
  · exact hp.mul hz

theorem Fine.hid {a : Fin 10000 → Fin 10000 → EReal} {x : Fin 10000 → Fin 128 → EReal} {W : Fin 128 → Fin 128 → EReal}
    {b : Fin 128 → EReal} {p : EReal} (ha : ∀ i j, Fine (a i j)) (hx : ∀ i j, Fine (x i j)) (hW : ∀ i j, Fine (W i j))
    (hb : ∀ j, Fine (b j)) (hp : Fine p) (n : Fin 10000) (j : Fin 128) : Fine (hid a x W b p n j) :=
  hp.prelu (Fine.sum fun k => (ha n k).mul ((Fine.sum fun i => (hx k i).mul (hW j i)).add (hb j)))

theorem Fine.proj {h : Fin 10000 → Fin 128 → EReal} {Wb : Fin 128 → Fin 128 → EReal} (hh : ∀ i j, Fine (h i j))
    (hW : ∀ i j, Fine (Wb i j)) (n : Fin 10000) (j : Fin 128) : Fine (proj h Wb n j) :=
  Fine.sum fun i => (hh n i).mul (hW i j)

/-- The sigmoid is finite everywhere, at the infinities too. -/
theorem Fine.logistic (x : EReal) : Fine (Ideal.logistic x) := by
  induction x with
  | bot => exact ⟨0, by rw [Ideal.logistic_bot]; rfl⟩
  | coe r => exact ⟨_, Ideal.logistic_coe r⟩
  | top => exact ⟨1, by rw [Ideal.logistic_top]; rfl⟩

/-- A value whose absolute value lies below infinity is a real number. -/
theorem Fine.of_abs_lt {x : EReal} (h : max x (-x) < ⊤) : Fine x := by
  induction x with
  | bot => simp at h
  | coe r => exact ⟨r, rfl⟩
  | top => simp at h

/-- Division by the pattern of 10000 is multiplication by its reciprocal. -/
theorem div_nodes (x : EReal) : Ideal.div x (Ideal.ofBits .f32 0x461C4000#32) = x * ((1 / 10000 : ℝ) : EReal) := by
  have h : Ideal.ofBits .f32 0x461C4000#32 = ((10000 : ℝ) : EReal) := by
    simp [Ideal.ofBits, Ideal.ieee, -EReal.coe_mul]; norm_num
  rw [h, Ideal.div_coe (by norm_num)]

/-- The pattern of the infinity. -/
theorem ofBits_inf : Ideal.ofBits .f32 0x7F800000#32 = ⊤ := by
  simp [Ideal.ofBits, Ideal.ieee]

/-- A sum over the 10000 rows, taken block by block: `acc` is the sum of the first `n` blocks of 400. -/
theorem sum_blocks (f : Fin 10000 → EReal) (acc : (n : ℕ) → n ≤ 25 → EReal) (h0 : acc 0 (Nat.zero_le _) = 0)
    (hs : ∀ n (h : n + 1 ≤ 25), acc (n + 1) h = acc n (by omega) + ∑ r : Fin 400, f ⟨400 * n + r.val, by omega⟩) :
    acc 25 le_rfl = ∑ n, f n := by
  let g : ℕ → EReal := fun i => if h : i < 10000 then f ⟨i, h⟩ else 0
  have key : ∀ n (h : n ≤ 25), acc n h = ∑ i ∈ Finset.range (400 * n), g i := by
    intro n
    induction n with
    | zero => intro h; simp [h0]
    | succ n ih =>
      intro h
      rw [hs n h, ih (by omega), show 400 * (n + 1) = 400 * n + 400 from by ring, Finset.sum_range_add, Finset.sum_range (n := 400)]
      congr 1
      refine Finset.sum_congr rfl fun r _ => ?_
      have : 400 * n + r.val < 10000 := by omega
      simp only [g, dif_pos this]
  rw [key 25 le_rfl, show 400 * 25 = 10000 from rfl, Finset.sum_range]
  exact Finset.sum_congr rfl fun i _ => by simp only [g, dif_pos i.isLt]

end Cert.Dgi

end
-- ==== Proof.Vals.lean ====
/- What the kernel computes over the reals, index by index: the linear layer, the hidden rows, the running sum, the
   projected rows and the scores, each equal to the network's equation of the arguments. -/
module

public import proofs.«01_k».proof.Proof.Out
public import proofs.«01_k».proof.Proof.Spec
public import Idealize.ShloMosaic.Lib.Pointwise

@[expose] public section

set_option maxRecDepth 16384

noncomputable section

namespace Cert.KernelIdeal.Own

open Cert.KernelIdeal Cert.KernelIdeal.Gen Cert.Dgi
open Idealize.ShloMosaic Idealize.ShloMosaic.TcCoe

variable (m : (ℓ : Loc nD τ sig) → Buf (Elt Ideal) ℓ) (c : Dev nD)

/-! ## The arguments as functions of plain indices -/

def gPos (n : Fin 10000) (k : Fin 128) : EReal := (m ((c.tc : Thread nD τ).loc main_arg0) : Vec Ideal S1x10000x128 .f32) (ix3 0 n k)
def gNeg (n : Fin 10000) (k : Fin 128) : EReal := (m ((c.tc : Thread nD τ).loc main_arg1) : Vec Ideal S1x10000x128 .f32) (ix3 0 n k)
def gA (n k : Fin 10000) : EReal := (m ((c.tc : Thread nD τ).loc main_arg2) : Vec Ideal S10000x10000 .f32) (ix2 n k)
def gW (j k : Fin 128) : EReal := (m ((c.tc : Thread nD τ).loc main_arg3) : Vec Ideal S128x128 .f32) (ix2 j k)
def gB (j : Fin 128) : EReal := (m ((c.tc : Thread nD τ).loc main_arg4) : Vec Ideal S128 .f32) (ix1 j)
def gP : EReal := (m ((c.tc : Thread nD τ).loc main_arg5) : Vec Ideal S_ .f32) ix0
def gWb (i j : Fin 128) : EReal := (m ((c.tc : Thread nD τ).loc main_arg6) : Vec Ideal S1x128x128 .f32) (ix3 0 i j)
def gBb : EReal := (m ((c.tc : Thread nD τ).loc main_arg7) : Vec Ideal S1 .f32) (ix1 0)

/-- The hidden rows of the positive and of the negative features. -/
def hPos : Fin 10000 → Fin 128 → EReal := hid (gA m c) (gPos m c) (gW m c) (gB m c) (gP m c)
def hNeg : Fin 10000 → Fin 128 → EReal := hid (gA m c) (gNeg m c) (gW m c) (gB m c) (gP m c)

/-! ## The reshapes and the linear layer at an index, for any operands -/

theorem cast_feat (x : Vec Ideal S1x10000x128 .f32) (n : Fin 10000) (k : Fin 128) :
    shapeCast S10000x128 x shapeCasts_S1x10000x128_S10000x128 (ix2 n k) = x (ix3 0 n k) := by
  pointwise
theorem cast_bias (x : Vec Ideal S128 .f32) (k : Fin 128) : shapeCast S1x128 x shapeCasts_S128_S1x128 (ix2 0 k) = x (ix1 k) := by
  pointwise
theorem cast_slope (x : Vec Ideal S_ .f32) : shapeCast S1x1 x shapeCasts_S_S1x1 (ix2 0 0) = x ix0 := by
  pointwise
theorem cast_form (x : Vec Ideal S1x128x128 .f32) (i j : Fin 128) :
    shapeCast S128x128 x shapeCasts_S1x128x128_S128x128 (ix2 i j) = x (ix3 0 i j) := by
  pointwise
theorem cast_off (x : Vec Ideal S1 .f32) : shapeCast S1x1 x shapeCasts_S1_S1x1 (ix2 0 0) = x (ix1 0) := by
  pointwise

theorem lin_left (W : Vec Ideal S128x128 .f32) (b : Vec Ideal S1x128 .f32) (x y : Vec Ideal S10000x128 .f32) (n : Fin 10000) (j : Fin 128) :
    k0_pay1 (F := Ideal) W b x y (ix2 n (⟨j.val, by omega⟩ : Fin 256)) = ∑ k, x (ix2 n k) * W (ix2 j k) + b (ix2 0 j) := by
  pointwise [k0_pay1]
theorem lin_right (W : Vec Ideal S128x128 .f32) (b : Vec Ideal S1x128 .f32) (x y : Vec Ideal S10000x128 .f32) (n : Fin 10000) (j : Fin 128) :
    k0_pay1 (F := Ideal) W b x y (ix2 n (⟨128 + j.val, by omega⟩ : Fin 256)) = ∑ k, y (ix2 n k) * W (ix2 j k) + b (ix2 0 j) := by
  pointwise [k0_pay1]

/-! ## The blocks at an index -/

theorem blk0_at (t : Fin cfg0.N) (n : Fin 10000) (k : Fin 128) : (iblk m c 0 t : Vec Ideal S10000x128 .f32) (ix2 n k) = gPos m c n k := by
  rw [blk0, V_v0]; exact cast_feat _ _ _
theorem blk1_at (t : Fin cfg0.N) (n : Fin 10000) (k : Fin 128) : (iblk m c 1 t : Vec Ideal S10000x128 .f32) (ix2 n k) = gNeg m c n k := by
  rw [blk1, V_v1]; exact cast_feat _ _ _
theorem blk2_at (t : Fin cfg0.N) (j k : Fin 128) : (iblk m c 2 t : Vec Ideal S128x128 .f32) (ix2 j k) = gW m c j k := by
  rw [blk2, V_main_arg3]; rfl
theorem blk3_at (t : Fin cfg0.N) (j : Fin 128) : (iblk m c 3 t : Vec Ideal S1x128 .f32) (ix2 0 j) = gB m c j := by
  rw [blk3, V_v2]; exact cast_bias _ _
theorem blk5_at (t : Fin cfg0.N) : (iblk m c 5 t : Vec Ideal S1x1 .f32) (ix2 0 0) = gP m c := by
  rw [blk5, V_v3]; exact cast_slope _
theorem blk6_at (t : Fin cfg0.N) (i j : Fin 128) : (iblk m c 6 t : Vec Ideal S128x128 .f32) (ix2 i j) = gWb m c i j := by
  rw [blk6, V_v4]; exact cast_form _ _ _
theorem blk7_at (t : Fin cfg0.N) : (iblk m c 7 t : Vec Ideal S1x1 .f32) (ix2 0 0) = gBb m c := by
  rw [blk7, V_v5]; exact cast_off _

/-! ## The payloads at an index -/

/-- The first point's linear layer, positive features left, negative right. -/
theorem xm_pos (n : Fin 10000) (j : Fin 128) :
    (xm m c) (ix2 n (⟨j.val, by omega⟩ : Fin 256)) = lin (gPos m c) (gW m c) (gB m c) n j :=
  (lin_left _ _ _ _ n j).trans (by simp only [lin, blk0_at, blk2_at, blk3_at])

theorem xm_neg (n : Fin 10000) (j : Fin 128) :
    (xm m c) (ix2 n (⟨128 + j.val, by omega⟩ : Fin 256)) = lin (gNeg m c) (gW m c) (gB m c) n j :=
  (lin_right _ _ _ _ n j).trans (by simp only [lin, blk1_at, blk2_at, blk3_at])

/-- A point's block of hidden rows. -/
theorem hid_pos (t : Fin cfg0.N) (r : Fin 400) (j : Fin 128) :
    k0_pay3 (F := Ideal) (iblk m c 4 t) (xm m c) (iblk m c 5 t) (ix2 r (⟨j.val, by omega⟩ : Fin 256))
      = hPos m c ⟨400 * t.val + r.val, by have := t.isLt; have : cfg0.N = 25 := N_0; omega⟩ j := by
  pointwise [k0_pay3]
  simp only [xm_pos, blk4, blk5_at]
  rfl

theorem hid_neg (t : Fin cfg0.N) (r : Fin 400) (j : Fin 128) :
    k0_pay3 (F := Ideal) (iblk m c 4 t) (xm m c) (iblk m c 5 t) (ix2 r (⟨128 + j.val, by omega⟩ : Fin 256))
      = hNeg m c ⟨400 * t.val + r.val, by have := t.isLt; have : cfg0.N = 25 := N_0; omega⟩ j := by
  pointwise [k0_pay3]
  simp only [xm_neg, blk4, blk5_at]
  rfl

/-- The running sum after the last point is the sum of all the positive hidden rows. -/
theorem sm_last (h : 25 ≤ cfg0.N) (j : Fin 128) : (sm m c 25 h) (ix2 0 j) = ∑ n, hPos m c n j := by
  have hN : cfg0.N = 25 := N_0
  refine sum_blocks (fun n => hPos m c n j) (fun n h => (sm m c n (by omega)) (ix2 0 j)) ?_ ?_
  · show k0_pay2 (F := Ideal) (ix2 0 j) = 0
    pointwise [k0_pay2]
  · intro n h
    show k0_pay4 (F := Ideal) (iblk m c 4 ⟨n, by omega⟩) (xm m c) (iblk m c 5 ⟨n, by omega⟩) (sm m c n (by omega)) (ix2 0 j) = _
    pointwise [k0_pay4]
    simp only [hid_pos]

/-- The projected rows. -/
theorem tp_at (n : Fin 10000) (j : Fin 128) : (tpAll m c) (ix2 n j) = proj (hPos m c) (gWb m c) n j := by
  unfold tpAll
  pointwise [k0_pay6, k0_pay5]
  simp only [hid_pos, blk6_at, Nat.div_add_mod]
  rfl

theorem tn_at (n : Fin 10000) (j : Fin 128) : (tnAll m c) (ix2 n j) = proj (hNeg m c) (gWb m c) n j := by
  unfold tnAll
  pointwise [k0_pay7, k0_pay5]
  simp only [hid_neg, blk6_at, Nat.div_add_mod]
  rfl

/-- The scores of a block of rows whose projections are finite: splitting into a rounded part and a remainder adds nothing. -/
theorem score_at (s : Vec Ideal S1x128 .f32) (bb : Vec Ideal S1x1 .f32) (t : Vec Ideal S2500x128 .f32)
    (ht : ∀ q j, Fine (t (ix2 q j))) (q : Fin 2500) :
    score (F := Ideal) s bb t (ix2 0 q)
      = ∑ j : Fin 128, Ideal.logistic (s (ix2 0 j) * ((1 / 10000 : ℝ) : EReal)) * t (ix2 q j) + bb (ix2 0 0) := by
  have h10 : ∀ j, k0_pay10 (F := Ideal) s (ix2 0 j) = Ideal.logistic (s (ix2 0 j) * ((1 / 10000 : ℝ) : EReal)) := by
    intro j
    pointwise [k0_pay10]
    rfl
  unfold score
  pointwise [k0_pay17, k0_pay11, k0_pay12, k0_pay13]
  simp only [h10, (ht _ _).sub_self, (Fine.logistic _).sub_self, mul_zero, zero_mul, Finset.sum_const_zero, add_zero]

/-! ## The returned array at an index -/

theorem chunk_at (d : Vec Ideal S10000x128 .f32) (n : Fin 10000) (j : Fin 128) (h1 : n.val / 2500 < 4) (h2 : n.val % 2500 < 2500) :
    chunk d ⟨n.val / 2500, h1⟩ (ix2 (⟨n.val % 2500, h2⟩ : Fin 2500) j) = d (ix2 n j) :=
  congrArg d (congrArg₂ ix2 (Fin.ext (Nat.div_add_mod n.val 2500)) rfl)

theorem chunk_fine (d : Vec Ideal S10000x128 .f32) (hd : ∀ n j, Fine (d (ix2 n j))) (k : Fin 4) (q : Fin 2500) (j : Fin 128) :
    Fine (chunk d k (ix2 q j)) := hd _ _

/-- One row of scores. -/
theorem scores_at (s : Vec Ideal S1x128 .f32) (bb : Vec Ideal S1x1 .f32) (d1 d2 : Vec Ideal S10000x128 .f32)
    (h1 : ∀ n j, Fine (d1 (ix2 n j))) (h2 : ∀ n j, Fine (d2 (ix2 n j))) (p : Fin 2) (n : Fin 10000) :
    scores (F := Ideal) s bb d1 d2 (ix2 p n)
      = ∑ j : Fin 128, Ideal.logistic (s (ix2 0 j) * ((1 / 10000 : ℝ) : EReal)) * (if p.val = 0 then d1 else d2) (ix2 n j) + bb (ix2 0 0) := by
  have hd : ∀ n j, Fine ((if p.val = 0 then d1 else d2) (ix2 n j)) := by
    intro n j; split
    · exact h1 n j
    · exact h2 n j
  refine (score_at s bb _ (chunk_fine (if p.val = 0 then d1 else d2) hd _) _).trans ?_
  congr 1
  refine Finset.sum_congr rfl fun j _ => ?_
  congr 1
  exact chunk_at _ n j _ _

/-- The last reshape lays row 1 after row 0. -/
theorem cast_out (x : Vec Ideal S2x10000 .f32) (q : Fin 20000) :
    shapeCast S1x20000 x shapeCasts_S2x10000_S1x20000 (ix2 0 q) = x (ix2 (⟨q.val / 10000, by omega⟩ : Fin 2) (⟨q.val % 10000, by omega⟩ : Fin 10000)) := by
  pointwise

variable (hP : ∀ n j, Fine (hPos m c n j)) (hN : ∀ n j, Fine (hNeg m c n j)) (hWb : ∀ i j, Fine (gWb m c i j))

include hP hN hWb in
theorem out_at (p : Fin 2) (n : Fin 10000) :
    (outArr m c : Vec Ideal S2x10000 .f32) (ix2 p n)
      = sco (summ (hPos m c)) (proj (if p.val = 0 then hPos m c else hNeg m c) (gWb m c)) (gBb m c) n := by
  refine (scores_at _ _ _ _ (fun n j => by rw [tp_at]; exact Fine.proj hP hWb n j) (fun n j => by rw [tn_at]; exact Fine.proj hN hWb n j) p n).trans ?_
  simp only [sm_last, blk7_at, sco, summ]
  congr 1
  refine Finset.sum_congr rfl fun j _ => ?_
  congr 1
  split
  · exact tp_at m c n j
  · exact tn_at m c n j

include hP hN hWb in
theorem res_left (n : Fin 10000) :
    (res m c : Vec Ideal S1x20000 .f32) (ix2 0 (⟨n.val, by omega⟩ : Fin 20000)) = sco (summ (hPos m c)) (proj (hPos m c) (gWb m c)) (gBb m c) n := by
  refine (cast_out _ _).trans ((out_at m c hP hN hWb _ _).trans ?_)
  rw [if_pos (by show n.val / 10000 = 0; omega)]
  congr 1
  exact Fin.ext (by show n.val % 10000 = n.val; omega)

include hP hN hWb in
theorem res_right (n : Fin 10000) :
    (res m c : Vec Ideal S1x20000 .f32) (ix2 0 (⟨10000 + n.val, by omega⟩ : Fin 20000)) = sco (summ (hPos m c)) (proj (hNeg m c) (gWb m c)) (gBb m c) n := by
  refine (cast_out _ _).trans ((out_at m c hP hN hWb _ _).trans ?_)
  rw [if_neg (by show ¬ (10000 + n.val) / 10000 = 0; omega)]
  congr 1
  exact Fin.ext (by show (10000 + n.val) % 10000 = n.val; omega)

end Cert.KernelIdeal.Own

end
-- ==== Proof.RefVals.lean ====
/- What the reference computes over the reals, index by index: the network's equations of the arguments. -/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal.Own

open Cert.ReferenceIdeal Cert.ReferenceIdeal.Gen Cert.ReferenceIdeal.Value Cert.Dgi
open Idealize.ShloMosaic Idealize.ShloMosaic.TcCoe

variable (m : (ℓ : Loc nD τ sig) → Buf (Elt Ideal) ℓ) (c : Dev nD)

/-! ## The arguments as functions of plain indices -/

def gPos (n : Fin 10000) (k : Fin 128) : EReal := (m ((c.tc : Thread nD τ).loc main_arg0) : Vec Ideal S1x10000x128 .f32) (ix3 0 n k)
def gNeg (n : Fin 10000) (k : Fin 128) : EReal := (m ((c.tc : Thread nD τ).loc main_arg1) : Vec Ideal S1x10000x128 .f32) (ix3 0 n k)
def gA (n k : Fin 10000) : EReal := (m ((c.tc : Thread nD τ).loc main_arg2) : Vec Ideal S10000x10000 .f32) (ix2 n k)
def gW (j k : Fin 128) : EReal := (m ((c.tc : Thread nD τ).loc main_arg3) : Vec Ideal S128x128 .f32) (ix2 j k)
def gB (j : Fin 128) : EReal := (m ((c.tc : Thread nD τ).loc main_arg4) : Vec Ideal S128 .f32) (ix1 j)
def gP : EReal := (m ((c.tc : Thread nD τ).loc main_arg5) : Vec Ideal S_ .f32) ix0
def gWb (i j : Fin 128) : EReal := (m ((c.tc : Thread nD τ).loc main_arg6) : Vec Ideal S1x128x128 .f32) (ix3 0 i j)
def gBb : EReal := (m ((c.tc : Thread nD τ).loc main_arg7) : Vec Ideal S1 .f32) (ix1 0)

/-- The hidden rows of the positive and of the negative features. -/
def hPos : Fin 10000 → Fin 128 → EReal := hid (gA m c) (gPos m c) (gW m c) (gB m c) (gP m c)
def hNeg : Fin 10000 → Fin 128 → EReal := hid (gA m c) (gNeg m c) (gW m c) (gB m c) (gP m c)

theorem res_left (n : Fin 10000) :
    (res_main_v49 (F := Ideal) m c : Vec Ideal S1x20000 .f32) (ix2 0 (⟨n.val, by omega⟩ : Fin 20000))
      = (sco (summ (hPos m c)) (proj (hPos m c) (gWb m c)) (gBb m c) n : EReal) := by
  unfold res_main_v49
  clean_types
  pointwise
  simp only [div_nodes]
  exact sco_swap (summ (hPos m c)) (hPos m c) (gWb m c) (gBb m c) n

theorem res_right (n : Fin 10000) :
    (res_main_v49 (F := Ideal) m c : Vec Ideal S1x20000 .f32) (ix2 0 (⟨10000 + n.val, by omega⟩ : Fin 20000))
      = (sco (summ (hPos m c)) (proj (hNeg m c) (gWb m c)) (gBb m c) n : EReal) := by
  unfold res_main_v49
  clean_types
  pointwise
  simp only [div_nodes]
  exact sco_swap (summ (hPos m c)) (hNeg m c) (gWb m c) (gBb m c) n

end Cert.ReferenceIdeal.Own

end
-- ==== Proof.Pre.lean ====
/- The precondition: its stated side conditions, and what it says of the arguments over the reals. -/
module

public import proofs.«01_k».proof.Pre_finite_args
public import proofs.«01_k».proof.Proof.Spec
public import Idealize.ShloMosaic.Lib.ReduceAll
public import Idealize.ShloMosaic.Lib.Pointwise

@[expose] public section

set_option maxRecDepth 16384

noncomputable section

namespace Cert.Pre_finite_args

open Idealize.ShloMosaic Cert.Dgi

/-- The side conditions the predicate states, each decided. -/
theorem sides : Facts where
  bcast_S_S1x10000x128 := by decide
  reducesTo_S1x10000x128_S_d0_1_2 := by decide
  h_S_ := by decide
  bcast_S_S10000x10000 := by decide
  reducesTo_S10000x10000_S_d0_1 := by decide
  bcast_S_S128x128 := by decide
  reducesTo_S128x128_S_d0_1 := by decide
  bcast_S_S128 := by decide
  reducesTo_S128_S_d0 := by decide
  bcast_S_S1x128x128 := by decide
  reducesTo_S1x128x128_S_d0_1_2 := by decide

/-- A comparison of an absolute value with infinity that came out 1 makes the value finite. -/
theorem fine_of_bit {x : EReal} (h : FloatOps.cmpf (F := Ideal) (φ := .f32) .olt (FloatOps.hostAbsf (F := Ideal) (φ := .f32) x) (Ideal.ofBits .f32 0x7F800000#32) = 1#1) : Fine x := by
  rw [ofBits_inf] at h
  refine Fine.of_abs_lt ?_
  by_contra hn
  have : FloatOps.cmpf (F := Ideal) (φ := .f32) .olt (FloatOps.hostAbsf (F := Ideal) (φ := .f32) x) ⊤ = 0#1 := by
    refine (show _ = BitVec.ofBool (decide (max x (-x) < ⊤)) from ?_).trans (by rw [decide_eq_false hn]; rfl)
    show BitVec.ofBool _ = BitVec.ofBool _
    congr
  rw [this] at h
  exact absurd h (by decide)

theorem fine [Facts] (a0 a1 : FVec Ideal S1x10000x128 .f32) (a2 : FVec Ideal S10000x10000 .f32) (a3 : FVec Ideal S128x128 .f32)
    (a4 : FVec Ideal S128 .f32) (a5 : FVec Ideal S_ .f32) (a6 : FVec Ideal S1x128x128 .f32) (a7 : FVec Ideal S1 .f32)
    (h : fn (F := Ideal) a0 a1 a2 a3 a4 a5 a6 a7 = fun _ => 1#1) :
    (∀ i, Fine (a0 i)) ∧ (∀ i, Fine (a1 i)) ∧ (∀ i, Fine (a2 i)) ∧ (∀ i, Fine (a3 i)) ∧ (∀ i, Fine (a4 i)) ∧ (∀ i, Fine (a5 i))
      ∧ (∀ i, Fine (a6 i)) := by
  haveI : Subsingleton S_.Idx := ⟨fun a b => funext fun i => i.elim0⟩
  have e := congrFun h ix0
  dsimp only [fn, fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => fine_of_bit (Host.reduce_andi_all _ _ _ _ _ e0 i), fun i => fine_of_bit (Host.reduce_andi_all _ _ _ _ _ e1 i),
    fun i => fine_of_bit (Host.reduce_andi_all _ _ _ _ _ e2 i), fun i => fine_of_bit (Host.reduce_andi_all _ _ _ _ _ e3 i),
    fun i => fine_of_bit (Host.reduce_andi_all _ _ _ _ _ e4 i), fun i => fine_of_bit (by rw [Subsingleton.elim i ix0]; exact e5),
    fun i => fine_of_bit (Host.reduce_andi_all _ _ _ _ _ e6 i)⟩

end Cert.Pre_finite_args

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.BitsInv
public import proofs.«01_k».proof.Proof.Vals
public import proofs.«01_k».proof.Proof.RefVals
public import proofs.«01_k».proof.Proof.Pre
public import Idealize.ShloMosaic.PureOps.IdealRules
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Dgi

/-- The kernel's frame. -/
theorem frame_k : Cert.quiescent_Kernel := fun m ρ _ => Cert.Kernel.Own.kept (F := Bits) m ρ

/-- The frame of the kernel over the reals. -/
theorem frame_ki : Cert.quiescent_KernelIdeal := fun m ρ _ =>
  (θ_run Cert.KernelIdeal.defs _ _).mono (fun _ h => ⟨fun c => (h.1 c).2, h.2⟩) (Cert.KernelIdeal.Own.run (F := Ideal) m ρ)

/-- The frame of the reference over the reals. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant stands for 1/10000. -/
theorem keeps : Cert.preserves_Kernel_KernelIdeal :=
  IdealRules.named_const.statement Cert.KernelIdeal.κ "inv_n" .f32 0x38D1B717#32 ((1 / 10000 : ℝ) : EReal) rfl

/-- An index of the returned row lies in its left or in its right half. -/
theorem halves (f g : Vec Ideal Cert.KernelIdeal.S1x20000 .f32)
    (hl : ∀ n : Fin 10000, f (ix2 0 (⟨n.val, by omega⟩ : Fin 20000)) = g (ix2 0 (⟨n.val, by omega⟩ : Fin 20000)))
    (hr : ∀ n : Fin 10000, f (ix2 0 (⟨10000 + n.val, by omega⟩ : Fin 20000)) = g (ix2 0 (⟨10000 + n.val, by omega⟩ : Fin 20000))) : f = g := by
  funext j
  obtain ⟨a, q, rfl⟩ : ∃ (a : Fin 1) (q : Fin 20000), j = ix2 a q := ⟨j 0, j 1, eq_ix2 j⟩
  obtain rfl : a = 0 := Subsingleton.elim _ _
  by_cases h : q.val < 10000
  · exact hl ⟨q.val, h⟩
  · have e := hr ⟨q.val - 10000, by omega⟩
    have e' : (⟨10000 + (q.val - 10000), by omega⟩ : Fin 20000) = q := Fin.ext (by show 10000 + (q.val - 10000) = q.val; omega)
    simp only [e'] at e
    exact e

/-- Under the precondition the kernel returns what the reference returns. -/
theorem value_eq [Cert.Pre_finite_args.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_args m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.ReferenceIdeal.Value.res_main_v49 (F := Ideal) m' c : Vec Ideal Cert.KernelIdeal.S1x20000 .f32) = Cert.KernelIdeal.Own.res (F := Ideal) m c := by
  obtain ⟨f0, f1, f2, f3, f4, f5, f6⟩ := Cert.Pre_finite_args.fine _ _ _ _ _ _ _ _ (hpre c)
  have hP : ∀ n j, Fine (Cert.KernelIdeal.Own.hPos m c n j) :=
    Fine.hid (fun _ _ => f2 _) (fun _ _ => f0 _) (fun _ _ => f3 _) (fun _ => f4 _) (f5 _)
  have hN : ∀ n j, Fine (Cert.KernelIdeal.Own.hNeg m c n j) :=
    Fine.hid (fun _ _ => f2 _) (fun _ _ => f1 _) (fun _ _ => f3 _) (fun _ => f4 _) (f5 _)
  have hW : ∀ i j, Fine (Cert.KernelIdeal.Own.gWb m c i j) := fun _ _ => f6 _
  have e0 : Cert.ReferenceIdeal.Own.gPos m' c = Cert.KernelIdeal.Own.gPos m c := funext fun n => funext fun k => congrFun h0 (ix3 0 n k)
  have e1 : Cert.ReferenceIdeal.Own.gNeg m' c = Cert.KernelIdeal.Own.gNeg m c := funext fun n => funext fun k => congrFun h1 (ix3 0 n k)
  have e2 : Cert.ReferenceIdeal.Own.gA m' c = Cert.KernelIdeal.Own.gA m c := funext fun n => funext fun k => congrFun h2 (ix2 n k)
  have e3 : Cert.ReferenceIdeal.Own.gW m' c = Cert.KernelIdeal.Own.gW m c := funext fun n => funext fun k => congrFun h3 (ix2 n k)
  have e4 : Cert.ReferenceIdeal.Own.gB m' c = Cert.KernelIdeal.Own.gB m c := funext fun n => congrFun h4 (ix1 n)
  have e5 : Cert.ReferenceIdeal.Own.gP m' c = Cert.KernelIdeal.Own.gP m c := congrFun h5 ix0
  have e6 : Cert.ReferenceIdeal.Own.gWb m' c = Cert.KernelIdeal.Own.gWb m c := funext fun n => funext fun k => congrFun h6 (ix3 0 n k)
  have e7 : Cert.ReferenceIdeal.Own.gBb m' c = Cert.KernelIdeal.Own.gBb m c := congrFun h7 (ix1 0)
  have ep : Cert.ReferenceIdeal.Own.hPos m' c = Cert.KernelIdeal.Own.hPos m c := by
    unfold Cert.ReferenceIdeal.Own.hPos Cert.KernelIdeal.Own.hPos; rw [e0, e2, e3, e4, e5]
  have en : Cert.ReferenceIdeal.Own.hNeg m' c = Cert.KernelIdeal.Own.hNeg m c := by
    unfold Cert.ReferenceIdeal.Own.hNeg Cert.KernelIdeal.Own.hNeg; rw [e1, e2, e3, e4, e5]
  refine halves _ _ (fun n => ?_) (fun n => ?_)
  · refine (Cert.ReferenceIdeal.Own.res_left m' c n).trans (Eq.trans ?_ (Cert.KernelIdeal.Own.res_left m c hP hN hW n).symm)
    rw [ep, e6, e7]
  · refine (Cert.ReferenceIdeal.Own.res_right m' c n).trans (Eq.trans ?_ (Cert.KernelIdeal.Own.res_right m c hP hN hW n).symm)
    rw [ep, en, e6, e7]

/-- The two programs over the reals agree. -/
theorem equal [Cert.Pre_finite_args.Facts] : Cert.algebraic_KernelIdeal_ReferenceIdeal_pre_finite_args := by
  intro m ρ m' ρ' hpre hagree
  refine ⟨fun c => Cert.KernelIdeal.Own.res (F := Ideal) m c, ?_, ?_⟩
  · exact (θ_run Cert.KernelIdeal.defs _ _).mono (fun _ h => h.1) (Cert.KernelIdeal.Own.run (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7⟩ := hagree c
    exact value_eq m m' hpre c h0 h1 h2 h3 h4 h5 h6 h7

/-- Everything claimed. -/
theorem claim : Cert.Claim :=
  ⟨Cert.Kernel.Gen.facts, Cert.KernelIdeal.Gen.facts, Cert.ReferenceIdeal.Gen.facts, Cert.Pre_finite_args.sides,
    frame_k, frame_ki, fun m ρ _ => frame_ki m ρ trivial, frame_ri, fun m ρ _ => frame_ri m ρ trivial,
    keeps, @equal Cert.Pre_finite_args.sides⟩

end Cert.Proof

end
